-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![2048, 2048]⟩ ⟨2, ![8192, 2048]⟩ 0 4 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨2, ![8192, 512]⟩ ⟨2, ![8192, 2048]⟩ 1 4 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x2048 : Shape := ⟨2, ![2048, 2048]⟩
abbrev S8192x512 : Shape := ⟨2, ![8192, 512]⟩
abbrev S2x2048x512 : Shape := ⟨3, ![2, 2048, 512]⟩
abbrev S4x2048x512 : Shape := ⟨3, ![4, 2048, 512]⟩
abbrev S2 : Shape := ⟨1, ![2]⟩
abbrev S3 : Shape := ⟨1, ![3]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x2048, .f32⟩
  | .hbm, ⟨1, _⟩ => ⟨S8192x512, .bf16⟩
  | .local _ .vmem, ⟨0, _⟩ => ⟨S2x2048x512, .f32⟩
  | .local _ .vmem, ⟨1, _⟩ => ⟨S4x2048x512, .bf16⟩
  | _, _ => ⟨S2048x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  ![0, v14.toNat]
def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v38 : BitVec 32 := Scalar.addi v2 c1_i32_23
  let c4_i32_24 : BitVec 32 := 4#32
  let c0_i32_25 : BitVec 32 := 0#32
  let v39 : BitVec 1 := Scalar.cmpi .eq c4_i32_24 c0_i32_25
  let c1_i32_26 : BitVec 32 := 1#32
  let v40 : BitVec 32 := Scalar.select v39 c1_i32_26 c4_i32_24
  let v41 : BitVec 32 := Scalar.remsi v38 v40
  let c0_i32_28 : BitVec 32 := 0#32
  let v43 : BitVec 1 := Scalar.cmpi .slt v41 c0_i32_28
  let c0_i32_29 : BitVec 32 := 0#32
  let v44 : BitVec 1 := Scalar.cmpi .slt v40 c0_i32_29
  let v45 : BitVec 1 := Scalar.xori v43 v44
  let c0_i32_27 : BitVec 32 := 0#32
  let v42 : BitVec 1 := Scalar.cmpi .ne v41 c0_i32_27
  let v46 : BitVec 1 := Scalar.andi v45 v42
  let v47 : BitVec 32 := Scalar.addi v41 v40
  let v48 : BitVec 32 := Scalar.select v46 v47 v41
  let c1_i32_31 : BitVec 32 := 1#32
  let v49 : BitVec 32 := Scalar.muli v48 c1_i32_31
  let v50 : BitVec 32 := Scalar.addi c0_i32_32 v49
  v50.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v51 : BitVec 32 := Scalar.addi v2 c2_i32
  let c4_i32_33 : BitVec 32 := 4#32
  let c0_i32_34 : BitVec 32 := 0#32
  let v52 : BitVec 1 := Scalar.cmpi .eq c4_i32_33 c0_i32_34
  let c1_i32_35 : BitVec 32 := 1#32
  let v53 : BitVec 32 := Scalar.select v52 c1_i32_35 c4_i32_33
  let v54 : BitVec 32 := Scalar.remsi v51 v53
  let c0_i32_37 : BitVec 32 := 0#32
  let v56 : BitVec 1 := Scalar.cmpi .slt v54 c0_i32_37
  let c0_i32_38 : BitVec 32 := 0#32
  let v57 : BitVec 1 := Scalar.cmpi .slt v53 c0_i32_38
  let v58 : BitVec 1 := Scalar.xori v56 v57
  let c0_i32_36 : BitVec 32 := 0#32
  let v55 : BitVec 1 := Scalar.cmpi .ne v54 c0_i32_36
  let v59 : BitVec 1 := Scalar.andi v58 v55
  let v60 : BitVec 32 := Scalar.addi v54 v53
  let v61 : BitVec 32 := Scalar.select v59 v60 v54
  let c1_i32_40 : BitVec 32 := 1#32
  let v62 : BitVec 32 := Scalar.muli v61 c1_i32_40
  let v63 : BitVec 32 := Scalar.addi c0_i32_41 v62
  v63.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v64 : BitVec 32 := Scalar.addi v2 c3_i32_42
  let c4_i32_43 : BitVec 32 := 4#32
  let c0_i32_44 : BitVec 32 := 0#32
  let v65 : BitVec 1 := Scalar.cmpi .eq c4_i32_43 c0_i32_44
  let c1_i32_45 : BitVec 32 := 1#32
  let v66 : BitVec 32 := Scalar.select v65 c1_i32_45 c4_i32_43
  let v67 : BitVec 32 := Scalar.remsi v64 v66
  let c0_i32_47 : BitVec 32 := 0#32
  let v69 : BitVec 1 := Scalar.cmpi .slt v67 c0_i32_47
  let c0_i32_48 : BitVec 32 := 0#32
  let v70 : BitVec 1 := Scalar.cmpi .slt v66 c0_i32_48
  let v71 : BitVec 1 := Scalar.xori v69 v70
  let c0_i32_46 : BitVec 32 := 0#32
  let v68 : BitVec 1 := Scalar.cmpi .ne v67 c0_i32_46
  let v72 : BitVec 1 := Scalar.andi v71 v68
  let v73 : BitVec 32 := Scalar.addi v67 v66
  let v74 : BitVec 32 := Scalar.select v72 v73 v67
  let c1_i32_50 : BitVec 32 := 1#32
  let v75 : BitVec 32 := Scalar.muli v74 c1_i32_50
  let v76 : BitVec 32 := Scalar.addi c0_i32_51 v75
  v76.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v99 : BitVec 32 := Scalar.muli v2 c2048_i32
  let c0_i32_75 : BitVec 32 := 0#32
  ![v99.toNat, 0]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v88 : BitVec 32 := Scalar.addi v2 c1_i32_63
  let c4_i32_64 : BitVec 32 := 4#32
  let c0_i32_65 : BitVec 32 := 0#32
  let v89 : BitVec 1 := Scalar.cmpi .eq c4_i32_64 c0_i32_65
  let c1_i32_66 : BitVec 32 := 1#32
  let v90 : BitVec 32 := Scalar.select v89 c1_i32_66 c4_i32_64
  let v91 : BitVec 32 := Scalar.remsi v88 v90
  let c0_i32_68 : BitVec 32 := 0#32
  let v93 : BitVec 1 := Scalar.cmpi .slt v91 c0_i32_68
  let c0_i32_69 : BitVec 32 := 0#32
  let v94 : BitVec 1 := Scalar.cmpi .slt v90 c0_i32_69
  let v95 : BitVec 1 := Scalar.xori v93 v94
  let c0_i32_67 : BitVec 32 := 0#32
  let v92 : BitVec 1 := Scalar.cmpi .ne v91 c0_i32_67
  let v96 : BitVec 1 := Scalar.andi v95 v92
  let v97 : BitVec 32 := Scalar.addi v91 v90
  let v98 : BitVec 32 := Scalar.select v96 v97 v91
  let c1_i32_73 : BitVec 32 := 1#32
  let v100 : BitVec 32 := Scalar.muli v98 c1_i32_73
  let v101 : BitVec 32 := Scalar.addi c0_i32_74 v100
  v101.toNat
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_100 : BitVec 32 := 3#32
  let v137 : BitVec 32 := Scalar.addi v2 c3_i32_100
  let c4_i32_101 : BitVec 32 := 4#32
  let c0_i32_102 : BitVec 32 := 0#32
  let v138 : BitVec 1 := Scalar.cmpi .eq c4_i32_101 c0_i32_102
  let c1_i32_103 : BitVec 32 := 1#32
  let v139 : BitVec 32 := Scalar.select v138 c1_i32_103 c4_i32_101
  let v140 : BitVec 32 := Scalar.remsi v137 v139
  let c0_i32_105 : BitVec 32 := 0#32
  let v142 : BitVec 1 := Scalar.cmpi .slt v140 c0_i32_105
  let c0_i32_106 : BitVec 32 := 0#32
  let v143 : BitVec 1 := Scalar.cmpi .slt v139 c0_i32_106
  let v144 : BitVec 1 := Scalar.xori v142 v143
  let c0_i32_104 : BitVec 32 := 0#32
  let v141 : BitVec 1 := Scalar.cmpi .ne v140 c0_i32_104
  let v145 : BitVec 1 := Scalar.andi v144 v141
  let v146 : BitVec 32 := Scalar.addi v140 v139
  let v147 : BitVec 32 := Scalar.select v145 v146 v140
  let c1_i32_111 : BitVec 32 := 1#32
  let v149 : BitVec 32 := Scalar.muli v147 c1_i32_111
  let v150 : BitVec 32 := Scalar.addi c0_i32_112 v149
  v150.toNat
def k0_dev6 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_140 : BitVec 32 := 2#32
  let v186 : BitVec 32 := Scalar.addi v2 c2_i32_140
  let c4_i32_141 : BitVec 32 := 4#32
  let c0_i32_142 : BitVec 32 := 0#32
  let v187 : BitVec 1 := Scalar.cmpi .eq c4_i32_141 c0_i32_142
  let c1_i32_143 : BitVec 32 := 1#32
  let v188 : BitVec 32 := Scalar.select v187 c1_i32_143 c4_i32_141
  let v189 : BitVec 32 := Scalar.remsi v186 v188
  let c0_i32_145 : BitVec 32 := 0#32
  let v191 : BitVec 1 := Scalar.cmpi .slt v189 c0_i32_145
  let c0_i32_146 : BitVec 32 := 0#32
  let v192 : BitVec 1 := Scalar.cmpi .slt v188 c0_i32_146
  let v193 : BitVec 1 := Scalar.xori v191 v192
  let c0_i32_144 : BitVec 32 := 0#32
  let v190 : BitVec 1 := Scalar.cmpi .ne v189 c0_i32_144
  let v194 : BitVec 1 := Scalar.andi v193 v190
  let v195 : BitVec 32 := Scalar.addi v189 v188
  let v196 : BitVec 32 := Scalar.select v194 v195 v189
  let c1_i32_151 : BitVec 32 := 1#32
  let v198 : BitVec 32 := Scalar.muli v196 c1_i32_151
  let v199 : BitVec 32 := Scalar.addi c0_i32_152 v198
  v199.toNat
def k0_off3 (d0 : Dev nD) (c1_i32_172 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v224 : BitVec 32 := Scalar.subi v2 c1_i32_172
  let c4_i32_173 : BitVec 32 := 4#32
  let c0_i32_174 : BitVec 32 := 0#32
  let v225 : BitVec 1 := Scalar.cmpi .eq c4_i32_173 c0_i32_174
  let c1_i32_175 : BitVec 32 := 1#32
  let v226 : BitVec 32 := Scalar.select v225 c1_i32_175 c4_i32_173
  let v227 : BitVec 32 := Scalar.remsi v224 v226
  let c0_i32_177 : BitVec 32 := 0#32
  let v229 : BitVec 1 := Scalar.cmpi .slt v227 c0_i32_177
  let c0_i32_178 : BitVec 32 := 0#32
  let v230 : BitVec 1 := Scalar.cmpi .slt v226 c0_i32_178
  let v231 : BitVec 1 := Scalar.xori v229 v230
  let c0_i32_176 : BitVec 32 := 0#32
  let v228 : BitVec 1 := Scalar.cmpi .ne v227 c0_i32_176
  let v232 : BitVec 1 := Scalar.andi v231 v228
  let v233 : BitVec 32 := Scalar.addi v227 v226
  let v234 : BitVec 32 := Scalar.select v232 v233 v227
  let c2048_i32_179 : BitVec 32 := 2048#32
  let v235 : BitVec 32 := Scalar.muli v234 c2048_i32_179
  let c0_i32_185 : BitVec 32 := 0#32
  ![v235.toNat, 0]
-- ==== Reference.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Layout.lean ====
/-
  The places and contents of the exchange.

  Four devices each hold a 2048-row block of an 8192 x 2048 array. Device `c` cuts its block into four column parts, casts
  each part to bf16, keeps its own and sends one to every other device; afterwards device `d` holds, for all four origins,
  the 512 columns that belong to `d`. This file names the devices, the views the kernel uses, the four cuts of the buffers
  (landing slots, staging slots, row blocks of the result, column parts of the argument) and the contents that end up in
  the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device `r` places after `c`. -/
def hop (r : Fin 4) (c : Dev nD) : Dev nD := ⟨(c.val + r.val) % 4, Nat.mod_lt _ (by decide)⟩

/-- The peer that slot `s` of device `c` sends to. -/
def up (s : Fin 3) (c : Dev nD) : Dev nD := hop s.succ c

/-- Slot `s` and slot `2 - s` undo each other. -/
theorem up_rev_up (s : Fin 3) (c : Dev nD) : up s.rev (up s c) = c := by revert s c; decide
theorem up_up_rev (s : Fin 3) (c : Dev nD) : up s (up s.rev c) = c := by revert s c; decide

theorem hop_inj (c : Dev nD) (r r' : Fin 4) (h : hop r c = hop r' c) : r = r' := by revert c r r'; decide
theorem hop_surj (c d : Dev nD) : ∃ r, hop r c = d := by revert c d; decide
theorem hop_zero (c : Dev nD) : hop 0 c = c := by revert c; decide

theorem sig1 (c : Dev nD) : (⟨k0_dev1 c, k0_dev1_lt c⟩ : Dev nD) = up 0 c := by revert c; decide +kernel
theorem sig2 (c : Dev nD) : (⟨k0_dev2 c, k0_dev2_lt c⟩ : Dev nD) = up 1 c := by revert c; decide +kernel
theorem sig3 (c : Dev nD) : (⟨k0_dev3 c, k0_dev3_lt c⟩ : Dev nD) = up 2 c := by revert c; decide +kernel
theorem to4 (c : Dev nD) : (⟨k0_dev4 c, k0_dev4_lt c⟩ : Dev nD) = up 0 c := by revert c; decide +kernel
theorem to5 (c : Dev nD) : (⟨k0_dev5 c, k0_dev5_lt c⟩ : Dev nD) = up 2 c := by revert c; decide +kernel
theorem to6 (c : Dev nD) : (⟨k0_dev6 c, k0_dev6_lt c⟩ : Dev nD) = up 1 c := by revert c; decide +kernel

/-! ## Views -/

theorem landInb (i : Fin 2) : ∀ a, (![i.val, 0, 0] : Fin 3 → Nat) a + S1x2048x512.size a ≤ S2x2048x512.size a := by
  revert i; decide
theorem stagInb (j : Fin 4) : ∀ a, (![j.val, 0, 0] : Fin 3 → Nat) a + S1x2048x512.size a ≤ S4x2048x512.size a := by
  revert j; decide
theorem inb2 (i : Fin 2) : ∀ a, (![i.val] : Fin 1 → Nat) a + S1.size a ≤ S2.size a := by revert i; decide
theorem inb3 (s : Fin 3) : ∀ a, (![s.val] : Fin 1 → Nat) a + S1.size a ≤ S3.size a := by revert s; decide

abbrev landRect (i : Fin 2) : Rect S2x2048x512 := Rect.unit (s := S2x2048x512) ![i.val, 0, 0] S1x2048x512.size (landInb i)
abbrev stagRect (j : Fin 4) : Rect S4x2048x512 := Rect.unit (s := S4x2048x512) ![j.val, 0, 0] S1x2048x512.size (stagInb j)
abbrev rowsRect (d : Dev nD) : Rect S8192x512 := Rect.unit (s := S8192x512) (k0_off2 d) S2048x512.size (k0_off2_inb d)
abbrev colsRect (c : Dev nD) (r : Fin 4) : Rect S2048x2048 :=
  Rect.unit (s := S2048x2048) (k0_off1 c (BitVec.ofNat 32 r.val)) S2048x512.size (k0_off1_inb c r)

abbrev argW : Memref sig .tc .hbm S2048x2048 .f32 := Memref.whole main_arg0
abbrev outW : Memref sig .tc .hbm S8192x512 .bf16 := Memref.whole main_v1
abbrev landW : Memref sig .tc .vmem S2x2048x512 .f32 := Memref.whole cc0_scratch0
abbrev stagW : Memref sig .tc .vmem S4x2048x512 .bf16 := Memref.whole cc0_scratch1

/-- Landing slot `i`, staging slot `j`, the result's row block of origin `d`, the argument's column part `r` of device `c`. -/
abbrev landM (i : Fin 2) : Memref sig .tc .vmem S2048x512 .f32 :=
  (landW.slice (landRect i) (fun _ => rfl)).squeeze S2048x512 squeezes_S1x2048x512_S2048x512
abbrev stagM (j : Fin 4) : Memref sig .tc .vmem S2048x512 .bf16 :=
  (stagW.slice (stagRect j) (fun _ => rfl)).squeeze S2048x512 squeezes_S1x2048x512_S2048x512
abbrev rowsM (d : Dev nD) : Memref sig .tc .hbm S2048x512 .bf16 := outW.slice (rowsRect d) (fun _ => rfl)
abbrev colsM (c : Dev nD) (r : Fin 4) : Memref sig .tc .hbm S2048x512 .f32 := argW.slice (colsRect c r) (fun _ => rfl)

/-- The copy, send and receive semaphores by slot, and the barrier semaphore. -/
abbrev cpS (i : Fin 2) : DmaSem sig := ((cc0_scratch2.slice (Rect.unit (s := S2) ![i.val] S1.size (inb2 i))).squeeze S_ squeezes_S1_S_).sem
abbrev sndS (s : Fin 3) : DmaSem sig := ((cc0_scratch3.slice (Rect.unit (s := S3) ![s.val] S1.size (inb3 s))).squeeze S_ squeezes_S1_S_).sem
abbrev rcvS (s : Fin 3) : DmaSem sig := ((cc0_scratch4.slice (Rect.unit (s := S3) ![s.val] S1.size (inb3 s))).squeeze S_ squeezes_S1_S_).sem
abbrev barS : Sem sig := (SemArray.scalar (sig.barrier 0 rfl) : Sems sig S_).sem

/-! ## The four cuts -/

/-- The elements under each view, in the buffer's own index set. -/
abbrev landSet (i : Fin 2) : Finset S2x2048x512.Idx := (landM i).view.set
abbrev stagSet (j : Fin 4) : Finset S4x2048x512.Idx := (stagM j).view.set
abbrev rowsSet (d : Dev nD) : Finset S8192x512.Idx := (rowsM d).view.set
abbrev colsSet (c : Dev nD) (r : Fin 4) : Finset S2048x2048.Idx := (colsM c r).view.set

theorem land_set (i : Fin 2) : landSet i = (landRect i).set :=
  (View.set_reshape _ _).trans (View.set_slice_whole _ _)
theorem stag_set (j : Fin 4) : stagSet j = (stagRect j).set :=
  (View.set_reshape _ _).trans (View.set_slice_whole _ _)
theorem rows_set (d : Dev nD) : rowsSet d = (rowsRect d).set := View.set_slice_whole _ _
theorem cols_set (c : Dev nD) (r : Fin 4) : colsSet c r = (colsRect c r).set := View.set_slice_whole _ _

theorem rows_off (d : Dev nD) : k0_off2 d = ![2048 * d.val, 0] := by revert d; decide +kernel
theorem cols_off (c : Dev nD) (r : Fin 4) : k0_off1 c (BitVec.ofNat 32 r.val) = ![0, 512 * (hop r c).val] := by
  revert c r; decide +kernel

theorem land_disj (i i' : Fin 2) (h : i ≠ i') : Disjoint (landSet i) (landSet i') := by
  rw [land_set, land_set]
  exact Ring.lead_disjoint (s := S2x2048x512) 0 1 (fun i : Fin 2 => ![i.val, 0, 0]) S1x2048x512.size landInb
    (fun i => (Nat.one_mul _).symm) rfl i i' h
theorem land_cover : Finset.univ.biUnion (fun i => landSet i) = Finset.univ := by
  rw [Finset.biUnion_congr rfl fun i _ => land_set i]
  exact Ring.lead_cover (s := S2x2048x512) 0 1 (fun i : Fin 2 => ![i.val, 0, 0]) S1x2048x512.size landInb
    (fun i => (Nat.one_mul _).symm) (by decide) rfl (by decide) rfl

theorem stag_disj (j j' : Fin 4) (h : j ≠ j') : Disjoint (stagSet j) (stagSet j') := by
  rw [stag_set, stag_set]
  exact Ring.lead_disjoint (s := S4x2048x512) 0 1 (fun j : Fin 4 => ![j.val, 0, 0]) S1x2048x512.size stagInb
    (fun j => (Nat.one_mul _).symm) rfl j j' h
theorem stag_cover : Finset.univ.biUnion (fun j => stagSet j) = Finset.univ := by
  rw [Finset.biUnion_congr rfl fun j _ => stag_set j]
  exact Ring.lead_cover (s := S4x2048x512) 0 1 (fun j : Fin 4 => ![j.val, 0, 0]) S1x2048x512.size stagInb
    (fun j => (Nat.one_mul _).symm) (by decide) rfl (by decide) rfl

theorem rows_disj (d d' : Dev nD) (h : d ≠ d') : Disjoint (rowsSet d) (rowsSet d') := by
  rw [rows_set, rows_set]
  exact Ring.lead_disjoint (s := S8192x512) 0 2048 k0_off2 S2048x512.size k0_off2_inb (fun d => by rw [rows_off]; rfl) rfl d d' h
theorem rows_cover : Finset.univ.biUnion (fun d => rowsSet d) = Finset.univ := by
  rw [Finset.biUnion_congr rfl fun d _ => rows_set d]
  exact Ring.lead_cover (s := S8192x512) 0 2048 k0_off2 S2048x512.size k0_off2_inb (fun d => by rw [rows_off]; rfl)
    (fun d a ha => by rw [rows_off]; fin_cases a; exact absurd rfl ha; rfl) rfl (by decide) rfl

/-- Unit rectangles at equal offsets are equal. -/
theorem unit_congr {s : Shape} {off off' size : Fin s.rank → ℕ} (h : ∀ a, off a + size a ≤ s.size a)
    (h' : ∀ a, off' a + size a ≤ s.size a) (e : off = off') : Rect.unit off size h = Rect.unit off' size h' := by
  subst e; rfl

/-- The column parts as blocks in order: part `r` of device `c` is column block `hop r c`. -/
theorem colInb (d : Fin 4) : ∀ a, (![0, 512 * d.val] : Fin 2 → Nat) a + S2048x512.size a ≤ S2048x2048.size a := by
  revert d; decide
theorem cols_set' (c : Dev nD) (r : Fin 4) :
    colsSet c r = (Rect.unit (s := S2048x2048) ![0, 512 * (hop r c).val] S2048x512.size (colInb (hop r c))).set := by
  rw [cols_set]; exact congrArg (fun R : Rect S2048x2048 => R.set)
    (unit_congr (s := S2048x2048) (size := S2048x512.size) (k0_off1_inb c r) (colInb (hop r c)) (cols_off c r))
theorem cols_disj (c : Dev nD) (r r' : Fin 4) (h : r ≠ r') : Disjoint (colsSet c r) (colsSet c r') := by
  rw [cols_set', cols_set']
  exact Ring.lead_disjoint (s := S2048x2048) 1 512 (fun d : Fin 4 => ![0, 512 * d.val]) S2048x512.size colInb (fun d => rfl) rfl
    _ _ (fun e => h (hop_inj c r r' e))
theorem cols_cover (c : Dev nD) : Finset.univ.biUnion (fun r => colsSet c r) = Finset.univ := by
  have h := Ring.lead_cover (s := S2048x2048) 1 512 (fun d : Fin 4 => ![0, 512 * d.val]) S2048x512.size colInb (fun d => rfl)
    (fun d a ha => by fin_cases a; rfl; exact absurd rfl ha) rfl (by decide) rfl
  refine Finset.eq_univ_iff_forall.mpr fun i => ?_
  obtain ⟨d, -, hd⟩ := Finset.mem_biUnion.mp (h ▸ Finset.mem_univ i)
  obtain ⟨r, rfl⟩ := hop_surj c d
  exact Finset.mem_biUnion.mpr ⟨r, Finset.mem_univ _, by rw [cols_set']; exact hd⟩

/-! ## Contents -/

variable (m : (ℓ : Loc nD τ sig) → Buf (Elt F) ℓ)

/-- The argument block of device `c` at launch. -/
abbrev argAt (c : Dev nD) : S2048x2048.Idx → F .f32 := m ((c : Thread nD τ).loc main_arg0)

/-- Column part `r` of it, as read; and the same cast to bf16, which is what travels. -/
def part (c : Dev nD) (r : Fin 4) : FVec F S2048x512 .f32 := (colsM c r).view.read (Elt F) (argAt m c)
def sent (c : Dev nD) (r : Fin 4) : FVec F S2048x512 .bf16 := truncf .bf16 (part m c r) bitsLt_bf16_f32

set_option backward.proofsInPublic true in
/-- Where row `i 0`, column `i 1` of the result on device `d` comes from: the origin device, and the place in its block. -/
def origin (i : S8192x512.Idx) : Dev nD := ⟨(i 0).val / 2048, by
  have : (i 0).val < 8192 := (i 0).isLt
  show _ < 4; omega⟩
set_option backward.proofsInPublic true in
def place (d : Dev nD) (i : S8192x512.Idx) : S2048x2048.Idx :=
  Shape.pair ⟨(i 0).val % 2048, Nat.mod_lt _ (by decide)⟩ ⟨512 * d.val + (i 1).val, by
    have h1 : (i 1).val < 512 := (i 1).isLt
    have h2 : d.val < 4 := d.isLt
    show _ < 2048; omega⟩

/-- The result on device `d`. -/
def result (d : Dev nD) : Buf (Elt F) ((d : Thread nD τ).loc main_v1) :=
  fun i => FloatOps.truncf .bf16 bitsLt_bf16_f32 (argAt m (origin i) (place d i))

/-- A shape cast there and back changes nothing. -/
theorem cast_back {s t : Shape} {α : Type} (v : s.Idx → α) (h : s.ShapeCasts t) (h' : t.ShapeCasts s) :
    shapeCast s (shapeCast t v h) h' = v :=
  funext fun y => congrArg v (by
    rw [Shape.reshapeEquiv_reshapeEquiv, Shape.reshapeEquiv_self])

theorem pay_back (u : FVec F S1x2048x512 .f32) :
    shapeCast S2048x512 (k0_pay1 u) shapeCasts_S1x2048x512_S2048x512
      = truncf .bf16 (shapeCast S2048x512 u shapeCasts_S1x2048x512_S2048x512) bitsLt_bf16_f32 := by
  unfold k0_pay1
  generalize (shapeCast S2048x512 u shapeCasts_S1x2048x512_S2048x512) = w
  dsimp only
  generalize (truncf .bf16 w bitsLt_bf16_f32) = v
  exact cast_back v _ _

/-- Loading landing slot `i`, casting and storing to staging slot `j` leaves there the cast of what the landing slot held. -/
theorem cast_read (c : Dev nD) (i : Fin 2) (j : Fin 4) (f : Buf (Elt F) ((c : Thread nD τ).loc cc0_scratch0))
    (g : Buf (Elt F) ((c : Thread nD τ).loc cc0_scratch1)) :
    (stagM j).view.read (Elt F) ((stagW.access (stagRect j)).write (Elt F) g
        (k0_pay1 (landW.view.readAt (Elt F) (landRect i).toLoadRect f)) Finset.univ)
      = truncf .bf16 ((landM i).view.read (Elt F) f : FVec F S2048x512 .f32) bitsLt_bf16_f32 := by
  show shapeCast S2048x512 ((stagW.access (stagRect j)).read (Elt F) ((stagW.access (stagRect j)).write (Elt F) g
        (k0_pay1 (landW.view.readAt (Elt F) (landRect i).toLoadRect f)) Finset.univ)) shapeCasts_S1x2048x512_S2048x512
      = truncf .bf16 (shapeCast S2048x512 (landW.view.readAt (Elt F) (landRect i).toLoadRect f : FVec F S1x2048x512 .f32)
          shapeCasts_S1x2048x512_S2048x512) bitsLt_bf16_f32
  rw [View.read_write_univ]
  generalize (landW.view.readAt (Elt F) (landRect i).toLoadRect f) = u
  exact pay_back u

/-- Part `r` of device `c`, written into row block `c` on device `hop r c`, is the result there. -/
theorem written_eq (c : Dev nD) (r : Fin 4) (fd : Buf (Elt F) ((hop r c : Thread nD τ).loc main_v1)) :
    ∀ i ∈ (rowsM c).view.set, (rowsM c).view.write (Elt F) fd (sent m c r) Finset.univ i = result m (hop r c) i := by
  intro i hi
  obtain ⟨y, -, rfl⟩ := Finset.mem_map.mp hi
  have h0 : (y 0).val < 2048 := (y 0).isLt
  have h1 : (y 1).val < 512 := (y 1).isLt
  have e0 : ((rowsM c).view.emb y 0 : Nat) = 2048 * c.val + 1 * (y 0).val := by
    show k0_off2 c 0 + 1 * (y 0).val = _
    rw [rows_off]; rfl
  have e1 : ((rowsM c).view.emb y 1 : Nat) = 0 + 1 * (y 1).val := by
    show k0_off2 c 1 + 1 * (y 1).val = _
    rw [rows_off]; rfl
  have ho : origin ((rowsM c).view.emb y) = c := by
    refine Fin.ext ?_
    show ((rowsM c).view.emb y 0 : Nat) / 2048 = c.val
    rw [e0]; omega
  have hp : place (hop r c) ((rowsM c).view.emb y) = (colsM c r).view.emb y := by
    refine funext fun a => Fin.ext ?_
    rcases a with ⟨_ | _ | n, ha⟩
    · show ((rowsM c).view.emb y 0 : Nat) % 2048 = k0_off1 c (BitVec.ofNat 32 r.val) 0 + 1 * (y 0).val
      rw [e0, cols_off]
      show _ = 0 + 1 * (y 0).val
      omega
    · show 512 * (hop r c).val + ((rowsM c).view.emb y 1 : Nat) = k0_off1 c (BitVec.ofNat 32 r.val) 1 + 1 * (y 1).val
      rw [e1, cols_off]
      show _ = 512 * (hop r c).val + 1 * (y 1).val
      omega
    · exact absurd ha (by simp)
  rw [View.write_emb_of_mem _ _ (Finset.mem_univ y)]
  unfold result
  rw [ho, hp]
  rfl

end Cert.Exchange

end
-- ==== Proof.Protocol.lean ====
/-
  The protocol of the exchange.

  Every device has seven cells others touch: its barrier cell, three send cells and three receive cells, one per slot. Each
  has a single round. A barrier cell is paid by the three peers, and peer `up t c` hands over with its unit the row block of
  its own result that `c` will write. A receive cell of slot `s` is paid by the transfer from `up (2 - s) c`, which hands over
  that row block holding its final contents. A send cell gives the staging slot back. The two copy semaphores are used by
  local transfers only and need no schedule.
-/
module

public import proofs.«01_k».proof.Proof.Layout

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the launch's rounds, the exchange's rounds, the local transfers' counters -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) :=
  ((Emb.inl : Emb UX (UX × Counters)).trans (Emb.inr : Emb (UX × Counters) UU)).trans
    (uEmb : UEmb UU (MT nD τ sig Unit (Elt F) ℕ UU ℕ)).toEmb
abbrev EK : UEmb Counters (MT nD τ sig Unit (Elt F) ℕ UU ℕ) := countersEmb

variable (m : (ℓ : Loc nD τ sig) → Buf (Elt F) ℓ)

/-! ## The pieces of a buffer, as assertions -/

def landAt (i : Fin 2) (c : Dev nD) (f : Buf (Elt F) ((landM i).view.loc (c : Thread nD τ))) : sProp 𝕄 :=
  (landM i).view.loc (c : Thread nD τ) ↦[(landM i).view.set]{fullShare} f
def stagAt (j : Fin 4) (c : Dev nD) (f : Buf (Elt F) ((stagM j).view.loc (c : Thread nD τ))) : sProp 𝕄 :=
  (stagM j).view.loc (c : Thread nD τ) ↦[(stagM j).view.set]{fullShare} f
/-- Row block `d` of the result on device `c`. -/
def rowsAt (d c : Dev nD) (f : Buf (Elt F) ((rowsM d).view.loc (c : Thread nD τ))) : sProp 𝕄 :=
  (rowsM d).view.loc (c : Thread nD τ) ↦[(rowsM d).view.set]{fullShare} f
def colsAt (r : Fin 4) (c : Dev nD) (f : Buf (Elt F) ((colsM c r).view.loc (c : Thread nD τ))) : sProp 𝕄 :=
  (colsM c r).view.loc (c : Thread nD τ) ↦[(colsM c r).view.set]{fullShare} f

instance stagAt_storable (j : Fin 4) (c : Dev nD) (f) : BI.Storable (upEmb : UEmb _ 𝕄) (stagAt (F := F) j c f) := by
  unfold stagAt; infer_instance
instance rowsAt_storable (d c : Dev nD) (f) : BI.Storable (upEmb : UEmb _ 𝕄) (rowsAt (F := F) d c f) := by
  unfold rowsAt; infer_instance

/-! ## Cells -/

/-- A cell's kind: the barrier, the send cell of a slot (`false`), the receive cell of a slot (`true`). -/
abbrev Kind : Type := Option (Bool × Fin 3)

abbrev csem : Kind → SemLoc sig
  | none => .reg barS
  | some (false, s) => .dma (sndS s)
  | some (true, s) => .dma (rcvS s)

abbrev cell (c : Dev nD) (k : Kind) : GSem nD τ sig := ((c : Thread nD τ), csem k)
abbrev barC (c : Dev nD) : GSem nD τ sig := cell c none
abbrev sndC (c : Dev nD) (s : Fin 3) : GSem nD τ sig := cell c (some (false, s))
abbrev rcvC (c : Dev nD) (s : Fin 3) : GSem nD τ sig := cell c (some (true, s))

/-- The kinds, in a list, and the kind of a semaphore if it has one. -/
abbrev kinds : List Kind :=
  [none, some (false, 0), some (false, 1), some (false, 2), some (true, 0), some (true, 1), some (true, 2)]
def kindOf (sm : SemLoc sig) : Option Kind := kinds.find? fun k => decide (csem k = sm)

theorem kindOf_csem (k : Kind) : kindOf (csem k) = some k := by revert k; decide
theorem kindOf_cp (i : Fin 2) : kindOf (.dma (cpS i)) = none := by revert i; decide
theorem csem_inj : Function.Injective csem := fun k k' h => by
  have := congrArg kindOf h
  rw [kindOf_csem, kindOf_csem] at this
  exact Option.some.inj this
theorem cell_inj {c c' : Dev nD} {k k' : Kind} (h : cell c k = cell c' k') : c = c' ∧ k = k' :=
  ⟨congrArg (fun g : GSem nD τ sig => g.1.1) h, csem_inj (congrArg Prod.snd h)⟩

/-- The units a transfer of one part credits. -/
def N : ℕ := Classical.choose (⟨_, rfl⟩ : ∃ n, (rowsM 0).view.dmaCredit = n)
theorem N_eq : (rowsM 0).view.dmaCredit = N := Classical.choose_spec (⟨_, rfl⟩ : ∃ n, (rowsM 0).view.dmaCredit = n)
theorem N_pos : 0 < N := by rw [← N_eq]; exact View.dmaCredit_pos _ (by decide)

/-! ## The schedule -/

/-- What peer `up t c` hands device `c` with its barrier unit: row block `c` of its result. -/
def barPay (c : Dev nD) (t : Fin 3) : sProp 𝕄 := iprop(∃ f, rowsAt c (up t c) f)
def sndPay (c : Dev nD) (s : Fin 3) : sProp 𝕄 := iprop(∃ f, stagAt s.castSucc c f)
/-- What the transfer into slot `s` of device `c` hands it: the sender's row block, finished. -/
def rcvPay (c : Dev nD) (s : Fin 3) : sProp 𝕄 := rowsAt (up s.rev c) c (result m c)

abbrev dutiesOf : Kind → Finset (Fin 3)
  | none => Finset.univ
  | some _ => {0}
abbrev unitsOf : Kind → ℕ
  | none => 1
  | some _ => N
def payOf (c : Dev nD) : Kind → Fin 3 → sProp 𝕄
  | none, t => barPay c t
  | some (false, s), _ => sndPay c s
  | some (true, s), _ => rcvPay m c s

instance payOf_storable (c : Dev nD) (k : Kind) (d : Fin 3) : BI.Storable (upEmb : UEmb _ 𝕄) (payOf m c k d) := by
  rcases k with _ | ⟨_ | _, s⟩ <;> unfold payOf
  · unfold barPay; infer_instance
  · unfold sndPay; infer_instance
  · unfold rcvPay; infer_instance

theorem units_pos (o : Option Kind) : 0 < o.elim 1 unitsOf := by
  cases o with
  | none => exact Nat.one_pos
  | some k =>
    cases k with
    | none => exact Nat.one_pos
    | some _ => exact N_pos

def sched : Rounds.Schedule (GSem nD τ sig) (Fin 3) 𝕄 where
  duties g r := if r = 0 ∧ g.1.2 = .tc then (kindOf g.2).elim ∅ dutiesOf else ∅
  amount g _ _ := (kindOf g.2).elim 1 unitsOf
  payload g _ d := (kindOf g.2).elim iprop(emp) fun k => payOf m g.1.1 k d
  unitless _ := False
  amount_pos g _ _ _ := units_pos (kindOf g.2)

theorem elim_storable (c : Dev nD) (d : Fin 3) (o : Option Kind) :
    BI.Storable (upEmb : UEmb _ 𝕄) (o.elim iprop(emp) fun k => payOf m c k d) := by
  cases o with
  | none => show BI.Storable upEmb iprop(emp); infer_instance
  | some k => exact payOf_storable m c k d

instance sched_storable (g : GSem nD τ sig) (r : ℕ) (d : Fin 3) :
    BI.Storable (upEmb : UEmb _ 𝕄) ((sched m).payload g r d) :=
  elim_storable m g.1.1 d (kindOf g.2)

variable (c : Dev nD)

theorem duties_at (k : Kind) : (sched m).duties (cell c k) 0 = dutiesOf k := by
  dsimp only [sched]; rw [if_pos ⟨rfl, rfl⟩, kindOf_csem]; rfl
theorem duties_after (g : GSem nD τ sig) : ∀ r, 1 ≤ r → (sched m).duties g r = ∅ := fun r hr => by
  dsimp only [sched]; exact if_neg fun h => by omega
theorem amount_at (k : Kind) (r : ℕ) (d : Fin 3) : (sched m).amount (cell c k) r d = unitsOf k := by
  dsimp only [sched]; rw [kindOf_csem]; rfl
theorem payload_at (k : Kind) (r : ℕ) (d : Fin 3) : (sched m).payload (cell c k) r d = payOf m c k d := by
  dsimp only [sched]; rw [kindOf_csem]; rfl

theorem expect_bar : (sched m).expect (barC c) 0 = 3 := by
  unfold Schedule.expect Schedule.amountOf
  rw [duties_at, Finset.sum_congr rfl fun d _ => amount_at m c none 0 d, Finset.sum_const]; rfl
theorem expect_xfer (b : Bool) (s : Fin 3) : (sched m).expect (cell c (some (b, s))) 0 = N := by
  unfold Schedule.expect Schedule.amountOf
  rw [duties_at, Finset.sum_singleton, amount_at]

theorem bigSep3 (Φ : Fin 3 → sProp 𝕄) : bigSep Finset.univ Φ = iprop(Φ 0 ∗ Φ 1 ∗ Φ 2) :=
  bigSep_univ_eq_bigSepL [0, 1, 2] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep2 (Φ : Fin 2 → sProp 𝕄) : bigSep Finset.univ Φ = iprop(Φ 0 ∗ Φ 1) :=
  bigSep_univ_eq_bigSepL [0, 1] (by decide) (by decide) Φ

/-- One piece for each kind of cell: the barrier's, the send cells', the receive cells'. -/
theorem bigSepK (Φ : Kind → sProp 𝕄) : bigSep Finset.univ Φ = iprop(Φ none
    ∗ (bigSep Finset.univ fun s : Fin 3 => Φ (some (false, s))) ∗ (bigSep Finset.univ fun s : Fin 3 => Φ (some (true, s)))) := by
  rw [bigSep3, bigSep3, bigSep_univ_eq_bigSepL kinds (by decide) (by decide)]
  have h : iprop(Φ none ∗ Φ (some (false, 0)) ∗ Φ (some (false, 1)) ∗ Φ (some (false, 2))
      ∗ Φ (some (true, 0)) ∗ Φ (some (true, 1)) ∗ Φ (some (true, 2)))
    ⊢ iprop(Φ none ∗ (Φ (some (false, 0)) ∗ Φ (some (false, 1)) ∗ Φ (some (false, 2)))
      ∗ (Φ (some (true, 0)) ∗ Φ (some (true, 1)) ∗ Φ (some (true, 2)))) := by
    iintro ⟨H, H0, H1, H2, H3, H4, H5⟩; iframe
  have h' : iprop(Φ none ∗ (Φ (some (false, 0)) ∗ Φ (some (false, 1)) ∗ Φ (some (false, 2)))
      ∗ (Φ (some (true, 0)) ∗ Φ (some (true, 1)) ∗ Φ (some (true, 2))))
    ⊢ iprop(Φ none ∗ Φ (some (false, 0)) ∗ Φ (some (false, 1)) ∗ Φ (some (false, 2))
      ∗ Φ (some (true, 0)) ∗ Φ (some (true, 1)) ∗ Φ (some (true, 2))) := by
    iintro ⟨H, ⟨H0, H1, H2⟩, H3, H4, H5⟩; iframe
  exact BI.Entails.antisymm h h'

/-- What the one wait of a round yields. -/
theorem yield_bar : (bigSep ((sched m).duties (barC c) 0 \ ∅) fun d => (sched m).payload (barC c) 0 d)
    = iprop(barPay c 0 ∗ barPay c 1 ∗ barPay c 2) := by
  rw [Finset.sdiff_empty, duties_at, bigSep_congr fun d _ => payload_at m c none 0 d]
  exact bigSep3 _
theorem yield_xfer (b : Bool) (s : Fin 3) :
    (bigSep ((sched m).duties (cell c (some (b, s))) 0 \ ∅) fun d => (sched m).payload (cell c (some (b, s))) 0 d)
      = payOf m c (some (b, s)) 0 := by
  rw [Finset.sdiff_empty, duties_at, bigSep_singleton, payload_at]

/-! ## Debts and levels -/

/-- Receive cells lie above barrier cells, which lie above everything else. -/
def lv (g : GSem nD τ sig) (_ : Unit) : ℕ := match kindOf g.2 with
  | some none => 1
  | some (some (true, _)) => 2
  | _ => 0
def L (g : GSem nD τ sig) : Finset Unit := if g.1.2 = .tc then {()} else ∅

theorem L_off (g : GSem nD τ sig) (h : g.1.2 ≠ .tc) : L g = ∅ := if_neg h
theorem lv_bar : lv (barC c) () = 1 := by
  unfold lv; rw [show kindOf (barC c).2 = some none from kindOf_csem none]
theorem lv_rcv (s : Fin 3) : lv (rcvC c s) () = 2 := by
  unfold lv; rw [show kindOf (rcvC c s).2 = some (some (true, s)) from kindOf_csem (some (true, s))]
theorem lv_cp (i : Fin 2) : lv ((c : Thread nD τ), .dma (cpS i)) () = 0 := by unfold lv; rw [kindOf_cp]

/-- The credit device `c` owes the receive cell of slot `s` of its peer, and the unit it owes that peer's barrier. -/
abbrev owesR (s : Fin 3) : CellTallies nD τ sig Unit := tallyAt (rcvC (up s c) s) () N
abbrev owesB (s : Fin 3) : CellTallies nD τ sig Unit := tallyAt (barC (up s c)) () 1

/-- The debts of a device, in the order it pays them: barrier units 0, 1, 2, then transfers of slot 0, 2, 1. -/
def debt1 : CellTallies nD τ sig Unit := 0 + owesR c 1
def debt2 : CellTallies nD τ sig Unit := debt1 c + owesR c 2
def debt3 : CellTallies nD τ sig Unit := debt2 c + owesR c 0
def debt4 : CellTallies nD τ sig Unit := debt3 c + owesB c 2
def debt5 : CellTallies nD τ sig Unit := debt4 c + owesB c 1
def debt6 : CellTallies nD τ sig Unit := debt5 c + owesB c 0

/-- Every cell in debt belongs to a TensorCore and lies above level `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_tally {b : ℕ} {O : CellTallies nD τ sig Unit} (h : Above b O) {d : Dev nD} {k : Kind} {n : ℕ}
    (hk : b < lv (cell d k) ()) : Above b (O + tallyAt (cell d k) () n) := fun g u hg => by
  rw [Pi.add_apply, Finsupp.add_apply, tallyAt_apply] at hg
  by_cases e : g = cell d k ∧ u = ()
  · rw [e.1]; exact ⟨rfl, hk⟩
  · rw [if_neg e, Nat.add_zero] at hg; exact h g u hg

theorem above3 : Above 1 (debt3 c) :=
  above_tally (above_tally (above_tally (above_zero 1) (by rw [lv_rcv]; decide)) (by rw [lv_rcv]; decide)) (by rw [lv_rcv]; decide)
theorem above2 : Above 1 (debt2 c) :=
  above_tally (above_tally (above_zero 1) (by rw [lv_rcv]; decide)) (by rw [lv_rcv]; decide)
theorem above1 : Above 1 (debt1 c) := above_tally (above_zero 1) (by rw [lv_rcv]; decide)

theorem Above.mono {b b' : ℕ} {O : CellTallies nD τ sig Unit} (h : Above b O) (hb : b' ≤ b) : Above b' O :=
  fun g u hg => ⟨(h g u hg).1, Nat.lt_of_le_of_lt hb (h g u hg).2⟩

/-- A wait on a cell no higher than `b` is allowed while all debts lie above `b`. -/
theorem mayWait {b : ℕ} {sm : SemLoc sig} (hb : lv ((c : Thread nD τ), sm) () ≤ b) {O : CellTallies nD τ sig Unit} (h : Above b O) :
    (levAts L lv : sProp 𝕄) ⊢ MayWait (c : Thread nD τ) sm () O :=
  MayOwe.of_cut (L := L) (lev := lv) b (fun p hp => by rw [Finset.mem_singleton.mp hp]; exact Finset.mem_singleton_self _)
    (fun g u hg => by rw [show L g = {()} from if_pos (h g u hg).1]; exact Finset.mem_singleton_self _)
    (fun p hp => by rw [Finset.mem_singleton.mp hp]; exact hb) (fun g u hg => (h g u hg).2)

/-- What the launch owes each device's cells: three units to its barrier, one transfer's credit to each receive cell. -/
theorem debt_bar (d c : Dev nD) : debt6 d (barC c) () = ∑ s : Fin 3, if up s d = c then 1 else 0 := by
  have hB (s : Fin 3) : owesB d s (barC c) () = if up s d = c then 1 else 0 := by
    show tallyAt _ _ _ _ _ = _
    rw [tallyAt_apply]
    by_cases h : up s d = c
    · rw [if_pos h, h, if_pos ⟨rfl, rfl⟩]
    · rw [if_neg h, if_neg fun e => h (cell_inj e.1).1.symm]
  have hR (s : Fin 3) : owesR d s (barC c) () = 0 := by
    show tallyAt _ _ _ _ _ = _
    rw [tallyAt_apply, if_neg fun e => by have := (cell_inj e.1).2; cases this]
  unfold debt6 debt5 debt4 debt3 debt2 debt1
  simp only [Pi.add_apply, Finsupp.add_apply, hB, hR, Pi.zero_apply, Finsupp.zero_apply, Fin.sum_univ_three]
  omega
theorem debt_rcv (d c : Dev nD) (s : Fin 3) : debt6 d (rcvC c s) () = if up s d = c then N else 0 := by
  have hB (t : Fin 3) : owesB d t (rcvC c s) () = 0 := by
    show tallyAt _ _ _ _ _ = _
    rw [tallyAt_apply, if_neg fun e => by have := (cell_inj e.1).2; cases this]
  have hR (t : Fin 3) : owesR d t (rcvC c s) () = if t = s then (if up s d = c then N else 0) else 0 := by
    show tallyAt _ _ _ _ _ = _
    rw [tallyAt_apply]
    by_cases ht : t = s
    · subst ht
      rw [if_pos rfl]
      by_cases h : up t d = c
      · rw [if_pos h, h, if_pos ⟨rfl, rfl⟩]
      · rw [if_neg h, if_neg fun e => h (cell_inj e.1).1.symm]
    · rw [if_neg ht, if_neg fun e => ht (by have := (cell_inj e.1).2; injection this with this; injection this with _ this; exact this.symm)]
  unfold debt6 debt5 debt4 debt3 debt2 debt1
  simp only [Pi.add_apply, Finsupp.add_apply, hB, hR, Pi.zero_apply, Finsupp.zero_apply]
  fin_cases s <;> simp

theorem credit_bar : (∑ d : Dev nD, debt6 d (barC c) ()) = 3 := by
  rw [Finset.sum_congr rfl fun d _ => debt_bar d c]; revert c; decide
theorem credit_rcv (s : Fin 3) : (∑ d : Dev nD, debt6 d (rcvC c s) ()) = N := by
  rw [Finset.sum_congr rfl fun d _ => debt_rcv d c s, Finset.sum_eq_single (up s.rev c)]
  · rw [if_pos (up_up_rev s c)]
  · exact fun d _ hd => if_neg fun h => hd (by rw [← h, up_rev_up])
  · exact fun h => absurd (Finset.mem_univ _) h

theorem creds : (Pipeline.launchCred debt6 c : sProp 𝕄)
    ⊢ iprop(cred (tallyAt (barC c) () 3) ∗ bigSep Finset.univ fun s : Fin 3 => cred (tallyAt (rcvC c s) () N)) := by
  have hone (k : Kind) (n : ℕ) (h : (∑ d : Dev nD, debt6 d (cell c k) ()) = n) :
      tallyOn (cell c k) (launchCredit (Pipeline.owing debt6) 0 (cell c k)) = (tallyAt (cell c k) () n : CellTallies nD τ sig Unit) := by
    unfold tallyAt; refine congrArg _ (Finsupp.ext fun u => ?_); cases u
    rw [Pipeline.launchCredit_owing, Finsupp.single_eq_same, h]
  have hk : (Pipeline.launchCred debt6 c : sProp 𝕄) ⊢ bigSep Finset.univ fun k : Kind =>
      cred (tallyOn (cell c k) (launchCredit (Pipeline.owing debt6) 0 (cell c k))) := by
    unfold Pipeline.launchCred
    refine (bigSep_subset (Finset.subset_univ (Finset.univ.map ⟨csem, csem_inj⟩))).trans ?_
    rw [bigSep_map]; exact BI.Entails.refl _
  refine hk.trans ?_
  rw [bigSepK, hone none 3 (credit_bar c),
    bigSep_congr fun s (_ : s ∈ Finset.univ) => congrArg cred (hone (some (true, s)) N (credit_rcv c s))]
  iintro ⟨H, -, H'⟩; iframe

end Cert.Exchange

end
-- ==== Proof.Steps.lean ====
/-
  The steps of the exchange, each stated once for every slot and every device: a signal, the barrier wait, a local copy in
  and its wait, the cast into a staging slot, a transfer, and the waits that close the exchange.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Kind → ℕ)

/-- The units each view credits. -/
theorem credit_rows (d : Dev nD) : (rowsM d).view.dmaCredit = N := N_eq
theorem credit_stag (j : Fin 4) : (stagM j).view.dmaCredit = N := by rw [← N_eq]

/-! ## What every device knows: the invariants of all cells, and that all are at their first round -/

def records : sProp 𝕄 :=
  bigSep Finset.univ fun p : Dev nD × Kind => iprop(cellInv EX (sched m) (K p) (cell p.1 p.2) ∗ reached EX (cell p.1 p.2) 0)

instance records_persistent : BI.Persistent (records m K) := by unfold records; infer_instance

theorem record_at (d : Dev nD) (k : Kind) :
    records m K ⊢ iprop(cellInv EX (sched m) (K (d, k)) (cell d k) ∗ reached EX (cell d k) 0) :=
  bigSep_elim (Finset.mem_univ (d, k))

/-! ## Contents of the pieces while the kernel runs -/

/-- Landing slot `i` holding column part `r`; staging slot `j` holding it cast. -/
def landed (i : Fin 2) (r : Fin 4) (c : Dev nD) : sProp 𝕄 :=
  iprop(∃ f, ⌜(landM i).view.read (Elt F) f = part m c r⌝ ∗ landAt i c f)
def staged (j r : Fin 4) (c : Dev nD) : sProp 𝕄 :=
  iprop(∃ g, ⌜(stagM j).view.read (Elt F) g = sent m c r⌝ ∗ stagAt j c g)

/-- What a load or store through slot `i` or `j` touches lies in the slot. -/
theorem land_on (i : Fin 2) : (landW.view.setOn (landRect i).toLoadRect.set : Finset S2x2048x512.Idx) ⊆ landSet i :=
  ((View.set_reshape _ _).trans (View.set_slice landW.view (landRect i))).symm.subset
theorem stag_on (j : Fin 4) : (stagW.view.setOn (stagRect j).toLoadRect.set : Finset S4x2048x512.Idx) ⊆ stagSet j :=
  ((View.set_reshape _ _).trans (View.set_slice stagW.view (stagRect j))).symm.subset
theorem stag_store (j : Fin 4) : ((stagW.access (stagRect j)).setOn Finset.univ : Finset S4x2048x512.Idx) ⊆ stagSet j :=
  ((View.set_reshape _ _).trans (View.setOn_univ _).symm).symm.subset

variable (c : Dev nD)

/-- A signal to peer `up s c` hands over row block `up s c` of `c`'s result. -/
theorem step_signal (s : Fin 3) (n : Dev nD) (hn : n = up s c) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + owesB c s) W ∗ dutyTok EX (barC (up s c)) 0 s.rev ∗ (∃ f, rowsAt (up s c) c f))
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS 1) k) Q) := by
  subst hn
  have hp : (sched m).payload (barC (up s c)) 0 s.rev = iprop(∃ f, rowsAt (up s c) c f) := by
    rw [payload_at]; show barPay (up s c) s.rev = _; unfold barPay; rw [up_rev_up]
  have hd : s.rev ∈ (sched m).duties ((up s c : Thread nD τ), SemLoc.reg barS) 0 := by
    show s.rev ∈ (sched m).duties (barC (up s c)) 0
    rw [duties_at]; exact Finset.mem_univ _
  have ha : (sched m).amount ((up s c : Thread nD τ), SemLoc.reg barS) 0 s.rev = 1 := amount_at m (up s c) none 0 s.rev
  iintro ⟨#HR, HO, Ht, Hp⟩ Hk
  ihave #Hr := (record_at m K (up s c) none) $$ HR
  icases Hr with ⟨#HI, #Hr⟩
  iapply (Rounds.wp_signal 𝒱₀ EX (sched m) (c : Thread nD τ) none (dst := (up s c : Thread nD τ)) (κ := K (up s c, none))
      (d := s.rev) hd ha () O rfl) $$ [HO Ht Hp]
  · isplitr; · iexact HI
    isplitl [HO]; · iexact HO
    isplitl [Ht]; · iexact Ht
    isplitl [Hp]
    · iapply (Entails.of_eq hp.symm); iexact Hp
    iexact Hr
  iexact Hk

/-- The barrier wait brings the row blocks of the peers' results that `c` is to write. -/
theorem step_barrier (W : Waits sig Unit) {O : CellTallies nD τ sig Unit} (hO : Above 1 O)
    {α : Type} {Q : α → sProp 𝕄} {k : PUnit → Prog (TpuEff nD τ sig (Elt F) Λ₀ .tc) α} :
    iprop(records m K ∗ cred (tallyAt (barC c) () 3) ∗ owes (c : Thread nD τ) O W ∗ levAts L lv ∗ atPos EX (barC c) 0 ∅ 0)
      ⊢ iprop(((owes (c : Thread nD τ) O (insert (.reg barS, ()) W) ∗ atPos EX (barC c) (0 + 1) ∅ 0
            ∗ barPay c 0 ∗ barPay c 1 ∗ barPay c 2)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  have hE : 0 + 3 = (sched m).expect ((c : Thread nD τ), SemLoc.reg barS) 0 := (expect_bar m c).symm
  iintro ⟨#HR, Hc, HO, #Hlev, Ha⟩ Hk
  ihave #Hr := (record_at m K c none) $$ HR
  icases Hr with ⟨#HI, -⟩
  iapply (Rounds.wp_wait_rest_token 𝒱₀ EX (sched m) (c : Thread nD τ) none (κ := K (c, none))
      (wpE_semWait_eq 𝒱₀ (c : Thread nD τ) none Set.univ) (Set.mem_univ _) () (O := O) (W := W) (R := 0) (m := 0) (T := ∅)
      hE) $$ [Hc HO Ha]
  · isplitr; · iexact HI
    isplitl [Hc]; · iexact Hc
    isplitl [HO]; · iexact HO
    isplitr; · iapply (mayWait c (sm := .reg barS) (Nat.le_of_eq (lv_bar c)) hO); iexact Hlev
    iexact Ha
  iintro ⟨HO, Ha, -, Hp⟩
  ihave Hp' := (Entails.of_eq (yield_bar m c)) $$ Hp
  iapply Hk
  isplitl [HO]; · iexact HO
  isplitl [Ha]; · iexact Ha
  iexact Hp'

/-- The wait on the cell of a transfer brings what its one duty hands over. -/
theorem step_wait (b : Bool) (s : Fin 3) (sem : DmaSem sig) (hs : csem (some (b, s)) = .dma sem) (W : Waits sig Unit)
    {sp sp' : Space} {sh sh' : Shape} {e e' : EltTy} {κ' : Idealize.ShloMosaic.Kind}
    {srcw : Memref sig .tc sp' sh' e'} {dstw : Memref sig κ' sp sh e} {hsrc : srcw.view.WordExact} {hdst : dstw.view.WordExact}
    (hN : dstw.view.dmaCredit = N) {α : Type} {Q : α → sProp 𝕄} {k : PUnit → Prog (TpuEff nD τ sig (Elt F) Λ₀ .tc) α} :
    iprop(records m K ∗ cred (tallyAt (cell c (some (b, s))) () N) ∗ owes (c : Thread nD τ) 0 W ∗ atPos EX (cell c (some (b, s))) 0 ∅ 0)
      ⊢ iprop(((owes (c : Thread nD τ) 0 (insert (.dma sem, ()) W) ∗ atPos EX (cell c (some (b, s))) (0 + 1) ∅ 0
            ∗ payOf m c (some (b, s)) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem srcw dstw hsrc hdst) k) Q) := by
  have hc : cell c (some (b, s)) = ((c : Thread nD τ), SemLoc.dma sem) := congrArg (Prod.mk (c : Thread nD τ)) hs
  have hE : 0 + dstw.view.dmaCredit = (sched m).expect ((c : Thread nD τ), SemLoc.dma sem) 0 := by
    rw [Nat.zero_add, hN, ← hc]; exact (expect_xfer m c b s).symm
  have hY := yield_xfer m c b s
  have hR := record_at m K c (some (b, s))
  rw [hc] at hY hR ⊢
  iintro ⟨#HR, Hc, HO, Ha⟩ Hk
  ihave #Hr := hR $$ HR
  icases Hr with ⟨#HI, -⟩
  iapply (Rounds.wp_wait_rest_token 𝒱₀ EX (sched m) (c : Thread nD τ) none (κ := K (c, some (b, s)))
      (wpE_waitDma2_eq 𝒱₀ (c : Thread nD τ) none Set.univ) (Set.mem_univ _) () (O := 0) (W := W) (R := 0) (m := 0) (T := ∅)
      hE) $$ [Hc HO Ha]
  · isplitr; · iexact HI
    isplitl [Hc]; · rw [hN]; iexact Hc
    isplitl [HO]; · iexact HO
    isplitr; · rw [MayWait_zero]; iempintro
    iexact Ha
  iintro ⟨HO, Ha, -, Hp⟩
  ihave Hp' := (Entails.of_eq hY) $$ Hp
  iapply Hk
  isplitl [HO]; · iexact HO
  isplitl [Ha]; · iexact Ha
  iexact Hp'

/-- A local copy of column part `r` into landing slot `i`: what its wait will bring. -/
abbrev comes (i : Fin 2) (r : Fin 4) : sProp 𝕄 := iprop(landed m i r c ∗ colsAt r c (argAt m c))

theorem came (i : Fin 2) (r : Fin 4) (f : Buf (Elt F) ((landM i).view.loc (c : Thread nD τ))) :
    iprop(((landM i).view.loc (c : Thread nD τ) ↦[(landM i).view.set]{fullShare}
        ((landM i).view.write (Elt F) f (ReadAs.same.apply ((colsM c r).view.read (Elt F) (argAt m c))) Finset.univ))
      ∗ ((colsM c r).view.loc (c : Thread nD τ) ↦[(colsM c r).view.set]{fullShare} (argAt m c)))
      ⊢ comes m c i r := by
  unfold comes landed landAt colsAt
  iintro ⟨Hd, Hs⟩
  isplitl [Hd]
  · iexists ((landM i).view.write (Elt F) f (ReadAs.same.apply ((colsM c r).view.read (Elt F) (argAt m c))) Finset.univ)
    isplitr
    · ipureintro; exact View.read_write_univ _ _
    iexact Hd
  iexact Hs

theorem step_copy (i : Fin 2) (r : Fin 4) {hsrc : (colsM c r).view.WordExact} {hdst : (landM i).view.WordExact}
    {hsem : DmaTarget.Typed (nD := nD) .hbm (.dma (cpS i)) (DmaTarget.here (p := Proc.tc) (landM i))}
    {α : Type} {Q : α → sProp 𝕄} {k : PUnit → Prog (TpuEff nD τ sig (Elt F) Λ₀ .tc) α} :
    iprop(colsAt r c (argAt m c) ∗ (∃ f, landAt i c f) ∗ semVal ((c : Thread nD τ), .dma (cpS i)) 0)
      ⊢ iprop((Flight EK (c : Thread nD τ) (.dma (cpS i)) () (landM i).view.dmaCredit (comes m c i r)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (colsM c r) (.here (landM i)) (.dma (cpS i)) hsrc hdst hsem) k) Q) := by
  unfold landAt
  iintro ⟨Hs, ⟨%f, Hd⟩, Hv⟩ Hk
  unfold colsAt
  iapply (wp_dmaLocal EK 𝒱₀ (c : Thread nD τ) none (via := ReadAs.same) () _ rfl (View.dmaCredit_pos _ (by decide)) (Finset.Subset.refl _)) $$ [Hs Hd Hv]
  · isplitl [Hs]; · iexact Hs
    isplitl [Hd] <;> iassumption
  iintro HF
  iapply Hk
  iapply (Flight_mono EK (c : Thread nD τ) (came m c i r f)) $$ HF

/-- The wait of a local copy on copy semaphore `i`. -/
theorem step_copied (i : Fin 2) {N' : ℕ} {D : sProp 𝕄} (W : Waits sig Unit) {O : CellTallies nD τ sig Unit} (hO : Above 0 O)
    {sp sp' : Space} {sh sh' : Shape} {e e' : EltTy}
    {srcw : Memref sig .tc sp' sh' e'} {dstw : Memref sig .tc sp sh e} {hsrc : srcw.view.WordExact} {hdst : dstw.view.WordExact}
    (hN : dstw.view.dmaCredit = N')
    {α : Type} {Q : α → sProp 𝕄} {k : PUnit → Prog (TpuEff nD τ sig (Elt F) Λ₀ .tc) α} :
    iprop(Flight EK (c : Thread nD τ) (.dma (cpS i)) () N' D ∗ owes (c : Thread nD τ) O W ∗ levAts L lv)
      ⊢ iprop(((D ∗ semVal ((c : Thread nD τ), .dma (cpS i)) 0 ∗ owes (c : Thread nD τ) O (insert (.dma (cpS i), ()) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (cpS i) srcw dstw hsrc hdst) k) Q) := by
  iintro ⟨HF, HO, #Hlev⟩ Hk
  iapply (wp_waitLocalO EK 𝒱₀ (c : Thread nD τ) none () hN) $$ [HF HO]
  · isplitl [HF]; · iexact HF
    isplitl [HO]; · iexact HO
    iapply (mayWait c (sm := .dma (cpS i)) (Nat.le_of_eq (lv_cp c i)) hO); iexact Hlev
  iexact Hk

/-- Load landing slot `i`, cast, store to staging slot `j`. -/
theorem step_cast (i : Fin 2) (j r : Fin 4) {hl : landW.view.LoadsAt (landRect i).toLoadRect} {hl' : stagW.view.LoadsAt (stagRect j).toLoadRect}
    {hx : (stagW.access (stagRect j)).Stores Finset.univ} {hm : (Finset.univ : Finset (stagRect j).shape.Idx) = Finset.univ ∨ ∀ a, (stagRect j).stride a = 1}
    {α : Type} {Q : α → sProp 𝕄} {k : PUnit → Prog (TpuEff nD τ sig (Elt F) Λ₀ .tc) α} :
    iprop(landed m i r c ∗ (∃ g, stagAt j c g))
      ⊢ iprop((((∃ f, landAt i c f) ∗ staged m j r c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load landW (landRect i).toLoadRect hl) fun v => .op (.load stagW (stagRect j).toLoadRect hl') fun _ =>
            .op (.store stagW (stagRect j) (k0_pay1 v) Finset.univ hx hm) k) Q) := by
  unfold landed landAt stagAt
  iintro ⟨⟨%f, %hf, Hf⟩, ⟨%g, Hg⟩⟩ Hk
  iapply (wp_load 𝒱₀ (c : Thread nD τ) none Set.univ (m := landW) (S := (landM i).view.set) (f := f) (land_on i)) $$ Hf
  iintro Hf
  iapply (wp_load 𝒱₀ (c : Thread nD τ) none Set.univ (m := stagW) (S := (stagM j).view.set) (f := g) (stag_on j)) $$ Hg
  iintro Hg
  iapply (wp_store 𝒱₀ (c : Thread nD τ) none Set.univ (m := stagW) (r := stagRect j) (Mk := Finset.univ) (S := (stagM j).view.set) (f := g)
    (stag_store j)) $$ Hg
  iintro Hg
  iapply Hk
  isplitl [Hf]
  · iexists f; iexact Hf
  unfold staged stagAt
  iexists _
  isplitr
  rotate_left
  · iexact Hg
  · ipureintro
    rw [cast_read c i j f g, hf]; rfl

/-- The library's transfer rule at the cells of slot `s`. -/
theorem send_raw (s : Fin 3) (O : CellTallies nD τ sig Unit) (W : Waits sig Unit)
    {hsc : (rowsM c : Memref sig (Dev.tc (up s c) : Thread nD τ).2.kind .hbm S2048x512 .bf16).view.ref.isScScratch = false}
    {hsrc : (stagM s.castSucc).view.WordExact} {hdst : (rowsM c).view.WordExact}
    {hsem : DmaTarget.Typed .vmem (.dma (rcvS s)) (.remote (Dev.tc (up s c) : Thread nD τ) (rowsM c) (.dma (sndS s)) hsc)}
    {α : Type} {Q : α → sProp 𝕄} {k : PUnit → Prog (TpuEff nD τ sig (Elt F) Λ₀ .tc) α}
    (g : Buf (Elt F) ((stagM s.castSucc).view.loc (c : Thread nD τ))) (f : Buf (Elt F) ((rowsM c).view.loc (up s c : Thread nD τ)))
    (hp' : ((rowsM c).view.loc (up s c : Thread nD τ) ↦[(rowsM c).view.set]{fullShare}
        ((rowsM c).view.write (Elt F) f ((stagM s.castSucc).view.read (Elt F) g) Finset.univ) : sProp 𝕄)
      ⊢ (sched m).payload ((up s c : Thread nD τ), SemLoc.dma (rcvS s)) 0 0) :
    iprop(cellInv EX (sched m) (K (c, some (false, s))) ((c : Thread nD τ), SemLoc.dma (sndS s))
        ∗ cellInv EX (sched m) (K (up s c, some (true, s))) ((up s c : Thread nD τ), SemLoc.dma (rcvS s))
        ∗ stagAt s.castSucc c g ∗ rowsAt c (up s c) f
        ∗ owes (c : Thread nD τ) (O + owesR c s) W
        ∗ dutyTok EX ((c : Thread nD τ), SemLoc.dma (sndS s)) 0 0 ∗ reached EX ((c : Thread nD τ), SemLoc.dma (sndS s)) 0
        ∗ dutyTok EX ((up s c : Thread nD τ), SemLoc.dma (rcvS s)) 0 0 ∗ reached EX ((up s c : Thread nD τ), SemLoc.dma (rcvS s)) 0)
      ⊢ iprop(((cred (tallyAt ((c : Thread nD τ), SemLoc.dma (sndS s)) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (stagM s.castSucc) (.remote (Dev.tc (up s c) : Thread nD τ) (rowsM c) (.dma (sndS s)) hsc) (.dma (rcvS s)) hsrc hdst hsem) k) Q) := by
  have hd : (0 : Fin 3) ∈ (sched m).duties ((c : Thread nD τ), SemLoc.dma (sndS s)) 0 := by
    show (0 : Fin 3) ∈ (sched m).duties (sndC c s) 0
    rw [duties_at]; exact Finset.mem_singleton_self _
  have hd' : (0 : Fin 3) ∈ (sched m).duties ((up s c : Thread nD τ), SemLoc.dma (rcvS s)) 0 := by
    show (0 : Fin 3) ∈ (sched m).duties (rcvC (up s c) s) 0
    rw [duties_at]; exact Finset.mem_singleton_self _
  have ha : (sched m).amount ((c : Thread nD τ), SemLoc.dma (sndS s)) 0 0 = N := amount_at m c (some (false, s)) 0 0
  have ha' : (sched m).amount ((up s c : Thread nD τ), SemLoc.dma (rcvS s)) 0 0 = N := amount_at m (up s c) (some (true, s)) 0 0
  have hp : ((stagM s.castSucc).view.loc (c : Thread nD τ) ↦[(stagM s.castSucc).view.set]{fullShare} g : sProp 𝕄)
      ⊢ (sched m).payload ((c : Thread nD τ), SemLoc.dma (sndS s)) 0 0 := by
    refine .trans ?_ (Entails.of_eq (payload_at m c (some (false, s)) 0 0).symm)
    show _ ⊢ sndPay c s
    unfold sndPay stagAt
    iintro H; iexists g; iexact H
  unfold stagAt rowsAt
  exact Rounds.wp_send_pointsTo 𝒱₀ EX (sched m) (c : Thread nD τ) none (κ₁ := K (c, some (false, s))) (κ₂ := K (up s c, some (true, s)))
    (r₁ := 0) (r₂ := 0) (d₁ := 0) (d₂ := 0) (fs := g) (fd := f) hd hd' () () N (credit_rows c) ha ha' O rfl (W := W) hp hp'

/-- The transfer of slot `s`: part `s + 1`, staged, to peer `up s c`. -/
theorem step_send (s : Fin 3) (n : Dev nD) (hn : n = up s c) (O : CellTallies nD τ sig Unit) (W : Waits sig Unit)
    {hsc : (rowsM c : Memref sig (Dev.tc n : Thread nD τ).2.kind .hbm S2048x512 .bf16).view.ref.isScScratch = false}
    {hsrc : (stagM s.castSucc).view.WordExact} {hdst : (rowsM c).view.WordExact}
    {hsem : DmaTarget.Typed .vmem (.dma (rcvS s)) (.remote (Dev.tc n : Thread nD τ) (rowsM c) (.dma (sndS s)) hsc)}
    {α : Type} {Q : α → sProp 𝕄} {k : PUnit → Prog (TpuEff nD τ sig (Elt F) Λ₀ .tc) α} :
    iprop(records m K ∗ staged m s.castSucc s.succ c ∗ barPay c s ∗ owes (c : Thread nD τ) (O + owesR c s) W
        ∗ dutyTok EX (sndC c s) 0 0 ∗ dutyTok EX (rcvC (up s c) s) 0 0)
      ⊢ iprop(((cred (tallyAt (sndC c s) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (stagM s.castSucc) (.remote (Dev.tc n : Thread nD τ) (rowsM c) (.dma (sndS s)) hsc) (.dma (rcvS s)) hsrc hdst hsem) k) Q) := by
  subst hn
  unfold staged barPay
  iintro ⟨#HR, ⟨%g, %hg, Hg⟩, ⟨%f, Hf⟩, HO, Ht, Ht'⟩ Hk
  ihave #Hr := (record_at m K c (some (false, s))) $$ HR
  icases Hr with ⟨#HI, #Hr⟩
  ihave #Hr' := (record_at m K (up s c) (some (true, s))) $$ HR
  icases Hr' with ⟨#HI', #Hr'⟩
  have hp' : ((rowsM c).view.loc (up s c : Thread nD τ) ↦[(rowsM c).view.set]{fullShare}
        ((rowsM c).view.write (Elt F) f ((stagM s.castSucc).view.read (Elt F) g) Finset.univ) : sProp 𝕄)
      ⊢ (sched m).payload ((up s c : Thread nD τ), SemLoc.dma (rcvS s)) 0 0 := by
    refine .trans ?_ (Entails.of_eq (payload_at m (up s c) (some (true, s)) 0 0).symm)
    show _ ⊢ rcvPay m (up s c) s
    unfold rcvPay rowsAt
    rw [up_rev_up, hg]
    exact Entails.of_eq (pointsTo_congr (written_eq m c s.succ f))
  iapply (send_raw m K c s O W g f hp') $$ [Hg Hf HO Ht Ht']
  · isplitr; · iexact HI
    isplitr; · iexact HI'
    isplitl [Hg]; · iexact Hg
    isplitl [Hf]; · iexact Hf
    isplitl [HO]; · iexact HO
    isplitl [Ht]; · iexact Ht
    isplitr; · iexact Hr
    isplitl [Ht']; · iexact Ht'
    iexact Hr'
  iexact Hk

/-- The local copy of the device's own part into its own row block: what its wait will bring. -/
abbrev keeps : sProp 𝕄 := iprop(rowsAt c c (result m c) ∗ ∃ g, stagAt 3 c g)

theorem kept (f : Buf (Elt F) ((rowsM c).view.loc (c : Thread nD τ))) (g : Buf (Elt F) ((stagM 3).view.loc (c : Thread nD τ)))
    (hg : (stagM 3).view.read (Elt F) g = sent m c 0) :
    iprop(((rowsM c).view.loc (c : Thread nD τ) ↦[(rowsM c).view.set]{fullShare}
        ((rowsM c).view.write (Elt F) f ((stagM 3).view.read (Elt F) g) Finset.univ))
      ∗ ((stagM 3).view.loc (c : Thread nD τ) ↦[(stagM 3).view.set]{fullShare} g))
      ⊢ keeps m c := by
  have hw : ∀ i ∈ (rowsM c).view.set, (rowsM c).view.write (Elt F) f ((stagM 3).view.read (Elt F) g) Finset.univ i = result m c i := by
    rw [hg]
    have h := written_eq m c 0
    rw [hop_zero] at h
    exact h f
  unfold keeps rowsAt stagAt
  iintro ⟨Hd, Hs⟩
  isplitl [Hd]
  · iapply (Entails.of_eq (pointsTo_congr hw)); iexact Hd
  iexists g; iexact Hs

theorem step_keep {hsrc : (stagM 3).view.WordExact} {hdst : (rowsM c).view.WordExact}
    {hsem : DmaTarget.Typed (nD := nD) .vmem (.dma (cpS 1)) (DmaTarget.here (p := Proc.tc) (rowsM c))}
    {α : Type} {Q : α → sProp 𝕄} {k : PUnit → Prog (TpuEff nD τ sig (Elt F) Λ₀ .tc) α} :
    iprop(staged m 3 0 c ∗ (∃ f, rowsAt c c f) ∗ semVal ((c : Thread nD τ), .dma (cpS 1)) 0)
      ⊢ iprop((Flight EK (c : Thread nD τ) (.dma (cpS 1)) () N (keeps m c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (stagM 3) (.here (rowsM c)) (.dma (cpS 1)) hsrc hdst hsem) k) Q) := by
  have hN : (rowsM c).view.amount (SemLoc.dma (cpS 1)) = N := credit_rows c
  unfold staged rowsAt
  iintro ⟨⟨%g, %hg, Hs⟩, ⟨%f, Hd⟩, Hv⟩ Hk
  unfold stagAt
  iapply (wp_dmaLocal EK 𝒱₀ (c : Thread nD τ) none (via := ReadAs.same) () N hN N_pos (Finset.Subset.refl _)) $$ [Hs Hd Hv]
  · isplitl [Hs]; · iexact Hs
    isplitl [Hd] <;> iassumption
  iintro HF
  iapply Hk
  iapply (Flight_mono EK (c : Thread nD τ) (kept m c f g hg)) $$ HF

/-- A cell whose one round is over closes: its counter is at zero. -/
theorem step_close (k : Kind) : iprop(records m K ∗ atPos EX (cell c k) (0 + 1) ∅ 0) ⊢ (|={Set.univ}=> semVal (cell c k) 0 : sProp 𝕄) := by
  iintro ⟨#HR, Ha⟩
  ihave #Hr := (record_at m K c k) $$ HR
  icases Hr with ⟨#HI, -⟩
  iapply (Rounds.cell_close EX (sched m) (Set.mem_univ (K (c, k))) (fun h => h) (R := 0 + 1) (duties_after m (cell c k)))
  isplitr; · iexact HI
  iexact Ha

end Cert.Exchange

end
-- ==== Proof.Body.lean ====
/-
  The body of the kernel on one device, for every device at once: what it starts from, one step per effect, what it leaves.
-/
module

public import proofs.«01_k».proof.Proof.Steps
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Kind → ℕ) (c : Dev nD)

/-! ## Whole buffers and their pieces -/

/-- Whole buffers at given contents. -/
abbrev argPts (f : Buf (Elt F) ((c : Thread nD τ).loc main_arg0)) : sProp 𝕄 := iprop(((c : Thread nD τ).loc main_arg0) ↦{fullShare} f)
abbrev outPts (f : Buf (Elt F) ((c : Thread nD τ).loc main_v1)) : sProp 𝕄 := iprop(((c : Thread nD τ).loc main_v1) ↦{fullShare} f)
abbrev landPts : sProp 𝕄 := iprop(∃ f : Buf (Elt F) ((c : Thread nD τ).loc cc0_scratch0), ((c : Thread nD τ).loc cc0_scratch0) ↦{fullShare} f)
abbrev stagPts : sProp 𝕄 := iprop(∃ f : Buf (Elt F) ((c : Thread nD τ).loc cc0_scratch1), ((c : Thread nD τ).loc cc0_scratch1) ↦{fullShare} f)

theorem arg_cut (f : Buf (Elt F) ((c : Thread nD τ).loc main_arg0)) :
    argPts c f = iprop(colsAt 0 c f ∗ colsAt 1 c f ∗ colsAt 2 c f ∗ colsAt 3 c f) := by
  rw [← bigSep4 fun r => colsAt r c f]
  exact Ring.pointsTo_blocks (ℓ := (c : Thread nD τ).loc main_arg0) (colsSet c) (cols_disj c) (cols_cover c) f

def hopEquiv : Fin 4 ≃ Dev nD := Equiv.ofBijective (fun r => hop r c) ⟨hop_inj c, hop_surj c⟩

theorem out_cut (f : Buf (Elt F) ((c : Thread nD τ).loc main_v1)) :
    outPts c f = iprop(rowsAt c c f ∗ rowsAt (up 0 c) c f ∗ rowsAt (up 1 c) c f ∗ rowsAt (up 2 c) c f) := by
  have h : outPts c f = bigSep Finset.univ fun d : Dev nD => rowsAt d c f :=
    Ring.pointsTo_blocks (ℓ := (c : Thread nD τ).loc main_v1) rowsSet rows_disj rows_cover f
  rw [h, bigSep_univ_equiv (hopEquiv c), bigSep4]
  show iprop(rowsAt (hop 0 c) c f ∗ _) = _
  rw [hop_zero]; rfl

theorem land_cut : landPts (F := F) c ⊢ iprop((∃ f, landAt 0 c f) ∗ ∃ f, landAt 1 c f) := by
  iintro ⟨%f, H⟩
  ihave H' := (Entails.of_eq ((Ring.pointsTo_blocks (ℓ := (c : Thread nD τ).loc cc0_scratch0) landSet land_disj land_cover f).trans
    (bigSep2 fun i => landAt i c f))) $$ H
  icases H' with ⟨H0, H1⟩
  isplitl [H0]; · iexists f; iexact H0
  iexists f; iexact H1
theorem stag_cut : stagPts (F := F) c ⊢ iprop((∃ f, stagAt 0 c f) ∗ (∃ f, stagAt 1 c f) ∗ (∃ f, stagAt 2 c f) ∗ ∃ f, stagAt 3 c f) := by
  iintro ⟨%f, H⟩
  ihave H' := (Entails.of_eq ((Ring.pointsTo_blocks (ℓ := (c : Thread nD τ).loc cc0_scratch1) stagSet stag_disj stag_cover f).trans
    (bigSep4 fun j => stagAt j c f))) $$ H
  icases H' with ⟨H0, H1, H2, H3⟩
  isplitl [H0]; · iexists f; iexact H0
  isplitl [H1]; · iexists f; iexact H1
  isplitl [H2]; · iexists f; iexact H2
  iexists f; iexact H3
theorem land_join (f₀ : Buf (Elt F) ((c : Thread nD τ).loc cc0_scratch0)) :
    iprop((∃ f, landAt 0 c f) ∗ ∃ f, landAt 1 c f) ⊢ landPts (F := F) c := by
  rw [← bigSep2 fun i => iprop(∃ f, landAt i c f)]
  exact Ring.pointsTo_blocks_join_exists (ℓ := (c : Thread nD τ).loc cc0_scratch0) landSet land_disj land_cover f₀
theorem stag_join (f₀ : Buf (Elt F) ((c : Thread nD τ).loc cc0_scratch1)) :
    iprop((∃ f, stagAt 0 c f) ∗ (∃ f, stagAt 1 c f) ∗ (∃ f, stagAt 2 c f) ∗ ∃ f, stagAt 3 c f) ⊢ stagPts (F := F) c := by
  rw [← bigSep4 fun j => iprop(∃ f, stagAt j c f)]
  exact Ring.pointsTo_blocks_join_exists (ℓ := (c : Thread nD τ).loc cc0_scratch1) stagSet stag_disj stag_cover f₀

/-- Every block of rows credits the same. -/
theorem credit_at (off : Fin 2 → ℕ) (h : ∀ a, off a + S2048x512.size a ≤ S8192x512.size a) :
    (outW.slice (Rect.unit (s := S8192x512) off S2048x512.size h) (fun _ => rfl)).view.dmaCredit = N := by
  rw [← N_eq]; rfl

/-! ## Where the body starts and where it ends -/

/-- The tokens of the duties device `c` pays for slot `s`, and its positions. -/
def payToks (s : Fin 3) : sProp 𝕄 :=
  iprop(dutyTok EX (barC (up s c)) 0 s.rev ∗ dutyTok EX (rcvC (up s c) s) 0 0 ∗ dutyTok EX (sndC c s) 0 0)
def ghost : sProp 𝕄 :=
  iprop(records m K ∗ (bigSep Finset.univ fun k : Kind => atPos EX (cell c k) 0 ∅ 0) ∗ bigSep Finset.univ fun s : Fin 3 => payToks c s)

/-- The copy semaphores at zero. -/
def cpSems : sProp 𝕄 := iprop(semVal ((c : Thread nD τ), .dma (cpS 0)) 0 ∗ semVal ((c : Thread nD τ), .dma (cpS 1)) 0)

def start : sProp 𝕄 :=
  iprop((∃ K, ghost m K c) ∗ (cred (tallyAt (barC c) () 3) ∗ bigSep Finset.univ fun s : Fin 3 => cred (tallyAt (rcvC c s) () N))
    ∗ levAts L lv ∗ cpSems c ∗ argPts c (argAt m c) ∗ ∃ f, outPts c f)
def Φ₀ : sProp 𝕄 := iprop(start m c ∗ landPts c ∗ stagPts c)

/-- The buffers that outlive the kernel, as it leaves them, with the barrier semaphore. -/
def final : sProp 𝕄 := iprop(semVal (barC c) 0 ∗ argPts c (argAt m c) ∗ outPts c (result m c))
def Φ₁ : sProp 𝕄 :=
  iprop(final m c ∗ (cpSems c ∗ (bigSep Finset.univ fun s : Fin 3 => semVal (sndC c s) 0) ∗ bigSep Finset.univ fun s : Fin 3 => semVal (rcvC c s) 0)
    ∗ landPts c ∗ stagPts c)

def bodyPre (W : Waits sig Unit) : sProp 𝕄 := iprop(Φ₀ m c ∗ owes (c : Thread nD τ) (debt6 c) W)
def bodyPost : sProp 𝕄 := iprop(Φ₁ m c ∗ ∃ W, owes (c : Thread nD τ) 0 W)

set_option maxHeartbeats 400000 in
/-- The body, one step per effect in program order. -/
theorem sound_body (W : Waits sig Unit) (Kt : PUnit → sProp 𝕄) :
    iprop(bodyPre m c W ∗ (bodyPost m c -∗ Kt ⟨⟩))
      ⊢ wp frame (wpE (defs₀ (F := F)) 𝒱₀ (c : Thread nD τ) none) Set.univ (bodyAt0 t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre Φ₀ start
  rw [arg_cut]
  iintro ⟨⟨⟨⟨⟨%K, Hg⟩, ⟨HcB, HcV⟩, #Hlev, HzC, ⟨Hx0, Hx1, Hx2, Hx3⟩, ⟨%f, Hout⟩⟩, Hland, Hstag⟩, HO⟩, Hk⟩
  unfold ghost
  icases Hg with ⟨#HR, Hat, Htok⟩
  ihave Hat := (Entails.of_eq (bigSepK fun k : Kind => atPos EX (cell c k) 0 ∅ 0)) $$ Hat
  icases Hat with ⟨HaB, HaS, HaV⟩
  ihave HaS := (Entails.of_eq (bigSep3 fun s => atPos EX (sndC c s) 0 ∅ 0)) $$ HaS
  icases HaS with ⟨HaS0, HaS1, HaS2⟩
  ihave HaV := (Entails.of_eq (bigSep3 fun s => atPos EX (rcvC c s) 0 ∅ 0)) $$ HaV
  icases HaV with ⟨HaV0, HaV1, HaV2⟩
  ihave HcV := (Entails.of_eq (bigSep3 fun s => cred (tallyAt (rcvC c s) () N))) $$ HcV
  icases HcV with ⟨HcV0, HcV1, HcV2⟩
  ihave Htok := (Entails.of_eq (bigSep3 fun s => payToks c s)) $$ Htok
  unfold payToks cpSems
  icases Htok with ⟨⟨HtB0, HtV0, HtS0⟩, ⟨HtB1, HtV1, HtS1⟩, ⟨HtB2, HtV2, HtS2⟩⟩
  icases HzC with ⟨Hz0, Hz1⟩
  ihave Hland := (land_cut c) $$ Hland
  icases Hland with ⟨Hl0, Hl1⟩
  ihave Hstag := (stag_cut c) $$ Hstag
  icases Hstag with ⟨Hs0, Hs1, Hs2, Hs3⟩
  ihave Hout := (Entails.of_eq (out_cut c f)) $$ Hout
  icases Hout with ⟨Ho, Ho0, Ho1, Ho2⟩
  -- the first two copies in
  iapply (step_copy m c 0 1) $$ [Hx1 Hl0 Hz0]
  · isplitl [Hx1]; · iexact Hx1
    isplitl [Hl0] <;> iassumption
  iintro HF0
  iapply (step_copy m c 1 3) $$ [Hx3 Hl1 Hz1]
  · isplitl [Hx3]; · iexact Hx3
    isplitl [Hl1] <;> iassumption
  iintro HF1
  -- one signal to every other device, lending it the rows it will fill
  iapply (step_signal m K c 0 _ (sig1 c) (debt5 c) _) $$ [HO HtB0 Ho0]
  · isplitr; · iexact HR
    isplitl [HO]; · iexact HO
    isplitl [HtB0]; · iexact HtB0
    iexists f; iexact Ho0
  iintro HO
  iapply (step_signal m K c 1 _ (sig2 c) (debt4 c) _) $$ [HO HtB1 Ho1]
  · isplitr; · iexact HR
    isplitl [HO]; · iexact HO
    isplitl [HtB1]; · iexact HtB1
    iexists f; iexact Ho1
  iintro HO
  iapply (step_signal m K c 2 _ (sig3 c) (debt3 c) _) $$ [HO HtB2 Ho2]
  · isplitr; · iexact HR
    isplitl [HO]; · iexact HO
    isplitl [HtB2]; · iexact HtB2
    iexists f; iexact Ho2
  iintro HO
  -- the barrier: every other device has lent its rows
  iapply (step_barrier m K c _ (above3 c)) $$ [HcB HO HaB]
  · isplitr; · iexact HR
    isplitl [HcB]; · iexact HcB
    isplitl [HO]; · iexact HO
    isplitr; · iexact Hlev
    iexact HaB
  iintro ⟨HO, HaB, Hb0, Hb1, Hb2⟩
  -- the blocks for the other devices: each cast into its staging slot and sent
  iapply (step_copied c 0 _ ((above3 c).mono (Nat.zero_le 1)) rfl) $$ [HF0 HO]
  · isplitl [HF0]; · iexact HF0
    isplitl [HO]; · iexact HO
    iexact Hlev
  iintro ⟨HF0, Hz0, HO⟩
  unfold comes
  icases HF0 with ⟨Hl0, Hx1⟩
  iapply (step_cast m c 0 0 1) $$ [Hl0 Hs0]
  · isplitl [Hl0] <;> iassumption
  iintro ⟨Hl0, Hs0⟩
  iapply (step_send m K c 0 _ (to4 c) (debt2 c) _) $$ [Hs0 Hb0 HO HtS0 HtV0]
  · isplitr; · iexact HR
    isplitl [Hs0]; · iexact Hs0
    isplitl [Hb0]; · iexact Hb0
    isplitl [HO]; · iexact HO
    isplitl [HtS0] <;> iassumption
  iintro ⟨HcS0, HO⟩
  iapply (step_copy m c 0 2) $$ [Hx2 Hl0 Hz0]
  · isplitl [Hx2]; · iexact Hx2
    isplitl [Hl0] <;> iassumption
  iintro HF0
  iapply (step_copied c 1 _ ((above2 c).mono (Nat.zero_le 1)) rfl) $$ [HF1 HO]
  · isplitl [HF1]; · iexact HF1
    isplitl [HO]; · iexact HO
    iexact Hlev
  iintro ⟨HF1, Hz1, HO⟩
  unfold comes
  icases HF1 with ⟨Hl1, Hx3⟩
  iapply (step_cast m c 1 2 3) $$ [Hl1 Hs2]
  · isplitl [Hl1] <;> iassumption
  iintro ⟨Hl1, Hs2⟩
  iapply (step_send m K c 2 _ (to5 c) (debt1 c) _) $$ [Hs2 Hb2 HO HtS2 HtV2]
  · isplitr; · iexact HR
    isplitl [Hs2]; · iexact Hs2
    isplitl [Hb2]; · iexact Hb2
    isplitl [HO]; · iexact HO
    isplitl [HtS2] <;> iassumption
  iintro ⟨HcS2, HO⟩
  iapply (step_copy m c 1 0) $$ [Hx0 Hl1 Hz1]
  · isplitl [Hx0]; · iexact Hx0
    isplitl [Hl1] <;> iassumption
  iintro HF1
  iapply (step_copied c 0 _ ((above1 c).mono (Nat.zero_le 1)) rfl) $$ [HF0 HO]
  · isplitl [HF0]; · iexact HF0
    isplitl [HO]; · iexact HO
    iexact Hlev
  iintro ⟨HF0, Hz0, HO⟩
  unfold comes
  icases HF0 with ⟨Hl0, Hx2⟩
  iapply (step_cast m c 0 1 2) $$ [Hl0 Hs1]
  · isplitl [Hl0] <;> iassumption
  iintro ⟨Hl0, Hs1⟩
  iapply (step_send m K c 1 _ (to6 c) (0) _) $$ [Hs1 Hb1 HO HtS1 HtV1]
  · isplitr; · iexact HR
    isplitl [Hs1]; · iexact Hs1
    isplitl [Hb1]; · iexact Hb1
    isplitl [HO]; · iexact HO
    isplitl [HtS1] <;> iassumption
  iintro ⟨HcS1, HO⟩
  -- the block the device keeps
  iapply (step_copied c 1 _ (above_zero 0) rfl) $$ [HF1 HO]
  · isplitl [HF1]; · iexact HF1
    isplitl [HO]; · iexact HO
    iexact Hlev
  iintro ⟨HF1, Hz1, HO⟩
  icases HF1 with ⟨Hl1, Hx0⟩
  iapply (step_cast m c 1 3 0) $$ [Hl1 Hs3]
  · isplitl [Hl1] <;> iassumption
  iintro ⟨Hl1, Hs3⟩
  iapply (step_keep m c) $$ [Hs3 Ho Hz1]
  · isplitl [Hs3]; · iexact Hs3
    isplitl [Ho]; · iexists f; iexact Ho
    iexact Hz1
  iintro HF1
  -- everything has arrived
  iapply (step_wait m K c true 0 _ rfl _ (credit_at _ _)) $$ [HcV0 HO HaV0]
  · isplitr; · iexact HR
    isplitl [HcV0]; · iexact HcV0
    isplitl [HO] <;> iassumption
  iintro ⟨HO, HaV0, HpV0⟩
  iapply (step_wait m K c true 2 _ rfl _ (credit_at _ _)) $$ [HcV2 HO HaV2]
  · isplitr; · iexact HR
    isplitl [HcV2]; · iexact HcV2
    isplitl [HO] <;> iassumption
  iintro ⟨HO, HaV2, HpV2⟩
  iapply (step_wait m K c true 1 _ rfl _ (credit_at _ _)) $$ [HcV1 HO HaV1]
  · isplitr; · iexact HR
    isplitl [HcV1]; · iexact HcV1
    isplitl [HO] <;> iassumption
  iintro ⟨HO, HaV1, HpV1⟩
  -- everything has been read out of the staging slots
  iapply (step_wait m K c false 0 _ rfl _ (credit_stag 0)) $$ [HcS0 HO HaS0]
  · isplitr; · iexact HR
    isplitl [HcS0]; · iexact HcS0
    isplitl [HO] <;> iassumption
  iintro ⟨HO, HaS0, HpS0⟩
  iapply (step_wait m K c false 2 _ rfl _ (credit_stag 2)) $$ [HcS2 HO HaS2]
  · isplitr; · iexact HR
    isplitl [HcS2]; · iexact HcS2
    isplitl [HO] <;> iassumption
  iintro ⟨HO, HaS2, HpS2⟩
  iapply (step_wait m K c false 1 _ rfl _ (credit_stag 1)) $$ [HcS1 HO HaS1]
  · isplitr; · iexact HR
    isplitl [HcS1]; · iexact HcS1
    isplitl [HO] <;> iassumption
  iintro ⟨HO, HaS1, HpS1⟩
  iapply (step_copied c 1 _ (above_zero 0) (credit_rows c)) $$ [HF1 HO]
  · isplitl [HF1]; · iexact HF1
    isplitl [HO]; · iexact HO
    iexact Hlev
  iintro ⟨HF1, Hz1, HO⟩
  unfold keeps
  icases HF1 with ⟨Ho, Hs3⟩
  ihave HpV0 := (Entails.of_eq (show payOf m c (some (true, 0)) 0 = rowsAt (up 2 c) c (result m c) from rfl)) $$ HpV0
  ihave HpV1 := (Entails.of_eq (show payOf m c (some (true, 1)) 0 = rowsAt (up 1 c) c (result m c) from rfl)) $$ HpV1
  ihave HpV2 := (Entails.of_eq (show payOf m c (some (true, 2)) 0 = rowsAt (up 0 c) c (result m c) from rfl)) $$ HpV2
  ihave HpS0 := (Entails.of_eq (show payOf m c (some (false, 0)) 0 = iprop(∃ f, stagAt 0 c f) from rfl)) $$ HpS0
  ihave HpS1 := (Entails.of_eq (show payOf m c (some (false, 1)) 0 = iprop(∃ f, stagAt 1 c f) from rfl)) $$ HpS1
  ihave HpS2 := (Entails.of_eq (show payOf m c (some (false, 2)) 0 = iprop(∃ f, stagAt 2 c f) from rfl)) $$ HpS2
  -- every cell closed, every buffer whole again
  imod (step_close m K c none) $$ [HaB] with HaB
  · isplitr; · iexact HR
    iexact HaB
  imod (step_close m K c (some (false, 0))) $$ [HaS0] with HaS0
  · isplitr; · iexact HR
    iexact HaS0
  imod (step_close m K c (some (false, 1))) $$ [HaS1] with HaS1
  · isplitr; · iexact HR
    iexact HaS1
  imod (step_close m K c (some (false, 2))) $$ [HaS2] with HaS2
  · isplitr; · iexact HR
    iexact HaS2
  imod (step_close m K c (some (true, 0))) $$ [HaV0] with HaV0
  · isplitr; · iexact HR
    iexact HaV0
  imod (step_close m K c (some (true, 1))) $$ [HaV1] with HaV1
  · isplitr; · iexact HR
    iexact HaV1
  imod (step_close m K c (some (true, 2))) $$ [HaV2] with HaV2
  · isplitr; · iexact HR
    iexact HaV2
  rw [wp_ret]; imodintro
  iapply Hk
  unfold bodyPost Φ₁ final cpSems
  isplitr [HO]
  · isplitl [HaB Hx0 Hx1 Hx2 Hx3 Ho HpV0 HpV1 HpV2]
    · isplitl [HaB]; · iexact HaB
      isplitl [Hx0 Hx1 Hx2 Hx3]
      · rw [arg_cut]; iframe
      · rw [out_cut]
        isplitl [Ho]; · iexact Ho
        isplitl [HpV2]; · iexact HpV2
        isplitl [HpV1] <;> iassumption
    isplitl [Hz0 Hz1 HaS0 HaS1 HaS2 HaV0 HaV1 HaV2]
    · isplitl [Hz0 Hz1]; · isplitl [Hz0] <;> iassumption
      rw [bigSep3, bigSep3]
      isplitl [HaS0 HaS1 HaS2]
      · isplitl [HaS0]; · iexact HaS0
        isplitl [HaS1] <;> iassumption
      · isplitl [HaV0]; · iexact HaV0
        isplitl [HaV1] <;> iassumption
    isplitl [Hl0 Hl1]
    · iapply (land_join c default)
      isplitl [Hl0] <;> iassumption
    · iapply (stag_join c default)
      isplitl [HpS0]; · iexact HpS0
      isplitl [HpS1]; · iexact HpS1
      isplitl [HpS2] <;> iassumption
  · iexists _; iexact HO

end Cert.Exchange

end
-- ==== Proof.Launch.lean ====
/-
  The launch: what every device is dealt before the kernel starts, and the run of the whole program.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The call as the pipeline sees it: one point, no window -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => debt6 c
    | ⟨_ + 1, _⟩ => 0

theorem body_obligation (c : Dev nD) : BodyObligation (dats (F := F) m 0 c) (defs₀ (F := F)) 𝒱₀ () Set.univ := fun t => by
  rw [fin_N0 t]
  show iprop(Φ₀ m c ∗ (dats m 0 c).owesAt () (t0_0 : Fin cfg0.N).castSucc ∗ bigSep Finset.univ _)
    ⊢ wp frame (wpE (defs₀ (F := F)) 𝒱₀ (c : Thread nD τ) none) Set.univ (bodyAt0 t0_0)
      (fun _ => iprop(Φ₁ m c ∗ (dats m 0 c).owesAt () (t0_0 : Fin cfg0.N).succ ∗ bigSep Finset.univ _))
  unfold Dat.owesAt Pipeline.owesWithin
  iintro ⟨HΦ, ⟨%W, %hW, HO⟩, -⟩
  iapply (sound_body m c W)
  isplitr []
  · unfold bodyPre
    isplitl [HΦ]; · iexact HΦ
    ihave HO := (Entails.of_eq (show owes (c : Thread nD τ) ((dats m 0 c).owed (t0_0 : Fin cfg0.N).castSucc) W
      = owes (c : Thread nD τ) (debt6 c) W from rfl)) $$ HO
    iexact HO
  · unfold bodyPost
    iintro ⟨HΦ, ⟨%W', HO⟩⟩
    isplitl [HΦ]; · iexact HΦ
    isplitl [HO]
    · iexists W'
      isplitr; · ipureintro; exact fun _ _ => Or.inl trivial
      iexact HO
    · rw [show (Finset.univ : Finset (Fin cfg0.W)) = ∅ from rfl, bigSep_empty]
      iempintro

/-! ## What the launch mints -/

abbrev osem : Fin 8 → SemLoc sig :=
  ![.dma (cpS 0), .dma (cpS 1), .dma (sndS 0), .dma (sndS 1), .dma (sndS 2), .dma (rcvS 0), .dma (rcvS 1), .dma (rcvS 2)]

theorem ownSemFacts : Pipeline.OwnSemFacts cfg0.spec osem := by decide

abbrev cellAt (p : Dev nD × Kind) : GSem nD τ sig := cell p.1 p.2
abbrev tokAt (p : Dev nD × Kind × Fin 3) : GSem nD τ sig × ℕ × Fin 3 := (cell p.1 p.2.1, 0, p.2.2)

theorem cellAt_injective : Function.Injective cellAt := fun p p' h =>
  Prod.ext (cell_inj h).1 (cell_inj h).2
theorem tokAt_injective : Function.Injective tokAt := fun p p' h =>
  Prod.ext (cell_inj (congrArg Prod.fst h)).1
    (Prod.ext (cell_inj (congrArg Prod.fst h)).2 (congrArg (fun x : GSem nD τ sig × ℕ × Fin 3 => x.2.2) h))

def allCells : Finset (GSem nD τ sig) := Finset.univ.map ⟨cellAt, cellAt_injective⟩
def allToks : Finset (GSem nD τ sig × ℕ × Fin 3) := Finset.univ.map ⟨tokAt, tokAt_injective⟩

def u₀ : UU :=
  (initOf (Pipeline.cells cfgs cellOf_inj) (Pipeline.launchToks cfgs cellOf_inj), (initOf allCells allToks, 1))

/-- The tokens of the cells of device `c`. -/
def toks (c : Dev nD) : sProp 𝕄 :=
  bigSep Finset.univ fun k : Kind => bigSep Finset.univ fun d : Fin 3 => dutyTok EX (cell c k) 0 d
def places (c : Dev nD) : sProp 𝕄 :=
  bigSep Finset.univ fun k : Kind => iprop(atPos EX (cell c k) 0 ∅ 0 ∗ reached EX (cell c k) 0)

def G (c : Dev nD) : sProp 𝕄 :=
  iprop((bigSep Finset.univ fun k : Kind => roundState EX (sched m) (cell c k) 0) ∗ places c ∗ toks c)
def G' (c : Dev nD) : sProp 𝕄 := iprop((∃ K, ghost m K c) ∗ cpSems c)

theorem fund : BI.own (EX (initOf allCells allToks)) ⊢ (|==> bigSep Finset.univ (G m) : sProp 𝕄) := by
  have hX (Φ : GSem nD τ sig → sProp 𝕄) : bigSep allCells Φ
      = bigSep Finset.univ fun c : Dev nD => bigSep Finset.univ fun k : Kind => Φ (cell c k) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund EX (sched m) allCells allToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G places; simp only [bigSep_sep']
  isplitl [Hst]; · iexact Hst
  isplitl [Hat Hr]
  · isplitl [Hat] <;> iassumption
  iexact Htok

/-! ## The semaphores the launch hands over -/

theorem ownSems0_eq (c : Dev nD) : (Pipeline.ownSems0 (Ix := Unit) (Name := ℕ) (U := UU) (Lvl := ℕ) (Val := Elt F) (τ := τ) osem c : sProp 𝕄)
    = iprop(cpSems c ∗ (bigSep Finset.univ fun s : Fin 3 => semVal (sndC c s) 0) ∗ bigSep Finset.univ fun s : Fin 3 => semVal (rcvC c s) 0) := by
  rw [Pipeline.ownSems0_eq_of_list c osem [0, 1, 2, 3, 4, 5, 6, 7] (by decide) (by decide), bigSep3, bigSep3]
  unfold cpSems
  have h : iprop(semVal ((c : Thread nD τ), osem 0) 0 ∗ semVal ((c : Thread nD τ), osem 1) 0 ∗ semVal ((c : Thread nD τ), osem 2) 0
        ∗ semVal ((c : Thread nD τ), osem 3) 0 ∗ semVal ((c : Thread nD τ), osem 4) 0 ∗ semVal ((c : Thread nD τ), osem 5) 0
        ∗ semVal ((c : Thread nD τ), osem 6) 0 ∗ semVal ((c : Thread nD τ), osem 7) 0)
      ⊢ (iprop((semVal ((c : Thread nD τ), osem 0) 0 ∗ semVal ((c : Thread nD τ), osem 1) 0)
        ∗ (semVal ((c : Thread nD τ), osem 2) 0 ∗ semVal ((c : Thread nD τ), osem 3) 0 ∗ semVal ((c : Thread nD τ), osem 4) 0)
        ∗ semVal ((c : Thread nD τ), osem 5) 0 ∗ semVal ((c : Thread nD τ), osem 6) 0 ∗ semVal ((c : Thread nD τ), osem 7) 0) : sProp 𝕄) := by
    iintro ⟨H0, H1, H2, H3, H4, H5, H6, H7⟩; iframe
  have h' : (iprop((semVal ((c : Thread nD τ), osem 0) 0 ∗ semVal ((c : Thread nD τ), osem 1) 0)
        ∗ (semVal ((c : Thread nD τ), osem 2) 0 ∗ semVal ((c : Thread nD τ), osem 3) 0 ∗ semVal ((c : Thread nD τ), osem 4) 0)
        ∗ semVal ((c : Thread nD τ), osem 5) 0 ∗ semVal ((c : Thread nD τ), osem 6) 0 ∗ semVal ((c : Thread nD τ), osem 7) 0) : sProp 𝕄)
      ⊢ iprop(semVal ((c : Thread nD τ), osem 0) 0 ∗ semVal ((c : Thread nD τ), osem 1) 0 ∗ semVal ((c : Thread nD τ), osem 2) 0
        ∗ semVal ((c : Thread nD τ), osem 3) 0 ∗ semVal ((c : Thread nD τ), osem 4) 0 ∗ semVal ((c : Thread nD τ), osem 5) 0
        ∗ semVal ((c : Thread nD τ), osem 6) 0 ∗ semVal ((c : Thread nD τ), osem 7) 0) := by
    iintro ⟨⟨H0, H1⟩, ⟨H2, H3, H4⟩, H5, H6, H7⟩; iframe
  exact BI.Entails.antisymm h h'

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (iprop(cpSems c ∗ bigSep Finset.univ fun k : Kind => semVal (cell c k) 0) : sProp 𝕄) := by
  rw [ownSems0_eq, unscopedSems0_eq, bigSepK]
  iintro ⟨⟨HC, HS, HV⟩, HB⟩
  isplitl [HC]; · iexact HC
  isplitl [HB]; · iexact HB
  isplitl [HS] <;> iassumption

/-! ## From minted to dealt -/

def alloced (c : Dev nD) : sProp 𝕄 :=
  iprop((bigSep Finset.univ fun k : Kind => iprop(∃ κ : ℕ, cellInv EX (sched m) κ (cell c k))) ∗ places c ∗ toks c ∗ cpSems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> alloced m c := by
  unfold G
  iintro ⟨Hos, Hus, Hst, Hat, Htok⟩
  ihave Hv := (sems0 (F := F) c) $$ [Hos Hus]
  · isplitl [Hos] <;> iassumption
  icases Hv with ⟨Hcp, Hv⟩
  imod (show iprop((bigSep Finset.univ fun k : Kind => semVal (cell c k) 0) ∗ bigSep Finset.univ fun k : Kind => roundState EX (sched m) (cell c k) 0)
      ⊢ (|={Set.univ}=> bigSep Finset.univ fun k : Kind => iprop(∃ κ : ℕ, cellInv EX (sched m) κ (cell c k)) : sProp 𝕄) from by
        rw [← bigSep_sep']
        exact (bigSep_mono fun k _ => (Rounds.body_intro EX (sched m) (cell c k)).trans inv_alloc).trans (bigSep_fupd _ _)) $$ [Hv Hst] with Hinv
  · isplitl [Hv] <;> iassumption
  imodintro
  unfold alloced
  isplitl [Hinv]; · iexact Hinv
  isplitl [Hat]; · iexact Hat
  isplitl [Htok] <;> iassumption

/-- The peer of a slot, with the slot as the peer numbers it back. -/
def meet : Dev nD × Fin 3 ≃ Dev nD × Fin 3 where
  toFun p := (up p.2 p.1, p.2.rev)
  invFun p := (up p.2 p.1, p.2.rev)
  left_inv p := Prod.ext (up_rev_up p.2 p.1) (Fin.rev_rev p.2)
  right_inv p := Prod.ext (up_rev_up p.2 p.1) (Fin.rev_rev p.2)
/-- The peer of a slot, at the same slot. -/
def ahead : Dev nD × Fin 3 ≃ Dev nD × Fin 3 where
  toFun p := (up p.2 p.1, p.2)
  invFun p := (up p.2.rev p.1, p.2)
  left_inv p := Prod.ext (up_rev_up p.2 p.1) rfl
  right_inv p := Prod.ext (up_up_rev p.2 p.1) rfl

/-- The tokens that are used, by device. -/
def usedToks (c : Dev nD) : sProp 𝕄 :=
  iprop((bigSep Finset.univ fun s : Fin 3 => dutyTok EX (barC c) 0 s) ∗ (bigSep Finset.univ fun s : Fin 3 => dutyTok EX (sndC c s) 0 0)
    ∗ bigSep Finset.univ fun s : Fin 3 => dutyTok EX (rcvC c s) 0 0)

theorem toks_used (c : Dev nD) : toks (F := F) c ⊢ usedToks c := by
  have h (b : Bool) : (bigSep Finset.univ fun s : Fin 3 => bigSep Finset.univ fun d : Fin 3 => (dutyTok EX (cell c (some (b, s))) 0 d : sProp 𝕄))
      ⊢ bigSep Finset.univ fun s : Fin 3 => dutyTok EX (cell c (some (b, s))) 0 0 :=
    bigSep_mono fun s _ => bigSep_elim (Finset.mem_univ (0 : Fin 3))
  unfold toks usedToks
  rw [bigSepK]
  iintro ⟨HB, HS, HV⟩
  isplitl [HB]; · iexact HB
  isplitl [HS]; · iapply (h false); iexact HS
  iapply (h true); iexact HV

theorem swap (A B C : sProp 𝕄) : iprop(A ∗ B ∗ C) ⊢ iprop(A ∗ C ∗ B) := by
  iintro ⟨HA, HB, HC⟩; iframe

/-- Every token goes to the device that pays its duty. -/
theorem toks_dealt : (bigSep Finset.univ fun c : Dev nD => toks (F := F) c)
    ⊢ bigSep Finset.univ fun c : Dev nD => bigSep Finset.univ fun s : Fin 3 => payToks c s := by
  refine (bigSep_mono fun c _ => toks_used c).trans ?_
  unfold usedToks payToks
  rw [bigSep_sep', bigSep_sep', ← bigSep_univ_prod (fun p : Dev nD × Fin 3 => (dutyTok EX (barC p.1) 0 p.2 : sProp 𝕄)),
    ← bigSep_univ_prod (fun p : Dev nD × Fin 3 => (dutyTok EX (sndC p.1 p.2) 0 0 : sProp 𝕄)),
    ← bigSep_univ_prod (fun p : Dev nD × Fin 3 => (dutyTok EX (rcvC p.1 p.2) 0 0 : sProp 𝕄)),
    ← bigSep_univ_prod (fun p : Dev nD × Fin 3 => (iprop(dutyTok EX (barC (up p.2 p.1)) 0 p.2.rev
      ∗ dutyTok EX (rcvC (up p.2 p.1) p.2) 0 0 ∗ dutyTok EX (sndC p.1 p.2) 0 0) : sProp 𝕄)),
    bigSep_sep', bigSep_sep',
    bigSep_univ_equiv meet (fun p : Dev nD × Fin 3 => (dutyTok EX (barC p.1) 0 p.2 : sProp 𝕄)),
    bigSep_univ_equiv ahead (fun p : Dev nD × Fin 3 => (dutyTok EX (rcvC p.1 p.2) 0 0 : sProp 𝕄))]
  exact swap _ _ _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

def linear (c : Dev nD) : sProp 𝕄 :=
  iprop((bigSep Finset.univ fun k : Kind => atPos EX (cell c k) 0 ∅ 0) ∗ (bigSep Finset.univ fun s : Fin 3 => payToks c s) ∗ cpSems c)

theorem linear_dealt (K : Dev nD × Kind → ℕ) (c : Dev nD) : iprop(records m K ∗ linear c) ⊢ G' m c := by
  unfold linear G' ghost
  iintro ⟨#HR, Hat, Htok, Hcp⟩
  isplitr [Hcp]
  · iexists K
    isplitr; · iexact HR
    isplitl [Hat] <;> iassumption
  iexact Hcp

theorem regroup : (bigSep Finset.univ fun c : Dev nD => alloced m c) ⊢ bigSep Finset.univ (G' m) := by
  unfold alloced places
  rw [bigSep_sep', bigSep_sep', bigSep_sep', ← bigSep_univ_prod (fun p : Dev nD × Kind => iprop(∃ κ : ℕ, cellInv EX (sched m) κ (cell p.1 p.2))),
    bigSep_congr (s := Finset.univ) (fun (c : Dev nD) _ => bigSep_sep' Finset.univ (fun k : Kind => (atPos EX (cell c k) 0 ∅ 0 : sProp 𝕄)) (fun k => reached EX (cell c k) 0)),
    bigSep_sep', ← bigSep_univ_prod (fun p : Dev nD × Kind => (reached EX (cell p.1 p.2) 0 : sProp 𝕄))]
  iintro ⟨HI, ⟨Hat, #HR⟩, Htok, Hcp⟩
  ihave HK := (BI.bigSep_exists_pi Finset.univ (fun (p : Dev nD × Kind) (κ : ℕ) => (cellInv EX (sched m) κ (cell p.1 p.2) : sProp 𝕄))) $$ HI
  icases HK with ⟨%K, #HI⟩
  ihave Htk := (toks_dealt (F := F)) $$ Htok
  iapply (bigSep_with (R := records m K) fun c _ => linear_dealt m K c)
  isplitr
  · unfold records; rw [bigSep_sep']
    isplitl; · iexact HI
    iexact HR
  · unfold linear; rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The run -/

/-- What a device's arrays hold at the end. -/
def Done (c : Dev nD) (s : MemSt nD τ sig (Elt F)) : Prop :=
  s.mem ((c : Thread nD τ).loc main_v1) = result m c ∧ s.mem ((c : Thread nD τ).loc main_arg0) = m ((c : Thread nD τ).loc main_arg0)

theorem start_intro (c : Dev nD) :
    iprop(Pipeline.unscopedRestP Pipeline.Prefetch.none cfg0.spec c (fun b => m ((c : Thread nD τ).loc b)) ∗ levAts L lv
        ∗ Pipeline.launchCred debt6 c ∗ prngReg c (ρ c) ∗ G' m c)
      ⊢ |={Set.univ}=> iprop(start m c ∗ emp) := by
  rw [Pipeline.unscopedRestP_none, unscopedRest0_eq]
  unfold G' start
  iintro ⟨⟨Hx, Ho⟩, Hlev, Hcr, -, HG, Hcp⟩
  ihave Hc := (creds (F := F) c) $$ Hcr
  imodintro
  isplitl
  · isplitl [HG]; · iexact HG
    isplitl [Hc]; · iexact Hc
    isplitl [Hlev]; · iexact Hlev
    isplitl [Hcp]; · iexact Hcp
    isplitl [Hx]; · iexact Hx
    iexists _; iexact Ho
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem leave (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems0_eq]
  unfold Φ₁
  exact BI.Entails.refl _

theorem read_at (ℓ : Loc nD τ sig) (f : Buf (Elt F) ℓ) (s : Phys nD τ sig (Elt F)) :
    (iprop((ℓ ↦{fullShare} f) ∗ SI s) : sProp 𝕄) ⊢ iprop(⌜s.mem.mem ℓ = f⌝ ∗ SI s) := by
  iintro ⟨H, HSI⟩
  icombine HSI H gives %h
  isplitr; · ipureintro; exact Buf.eq_of_forall_mem_univ h
  iexact HSI

theorem final_read (c : Dev nD) (s : Phys nD τ sig (Elt F)) :
    iprop(final m c ∗ emp ∗ SI s) ⊢ |={Set.univ}=> iprop(⌜Done m c s.mem
      ∧ ∀ sm : SemLoc sig, sm.isScoped .tc = false → s.mem.sem ((c.tc : Thread nD τ), sm) = 0⌝ ∗ SI s) := by
  unfold final
  iintro ⟨⟨HB, Hx, Ho⟩, -, HSI⟩
  ihave H := (read_at _ _ s) $$ [Hx HSI]
  · isplitl [Hx] <;> iassumption
  icases H with ⟨%hx, HSI⟩
  ihave H := (read_at _ _ s) $$ [Ho HSI]
  · isplitl [Ho] <;> iassumption
  icases H with ⟨%ho, HSI⟩
  ihave HB := (Entails.of_eq (unscopedSems0_eq (F := F) c).symm) $$ HB
  imod (Pipeline.unscopedSems0_read (X := unscopedSems0 c) (c := c) fupd_intro s) $$ [HB HSI] with ⟨%hb, HSI⟩
  · isplitl [HB] <;> iassumption
  imodintro
  isplitr; · ipureintro; exact ⟨⟨ho, hx⟩, hb⟩
  iexact HSI

theorem waits (c : Dev nD) : (levAts L lv : sProp 𝕄) ⊢ Pipeline.cellsWaits cfgs (dats m) () 0 c :=
  Pipeline.cellsWaits_intro cfgs (dats m) () 0 c fun w => w.elim0

set_option maxRecDepth 8000 in
/-- For any float values, from any memory with every counter at zero: the program terminates on every weakly fair
    execution, each device's result array ends holding `result`, its argument is unchanged, and every counter ends at zero. -/
theorem run_main : θ_run defs (onTc (τ := τ) (main (F := F))) ⟨m, fun _ => 0, ρ⟩
    (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := debt6) (howed₀ := fun _ => rfl) (howedN := fun _ => rfl)
    (L := L) (lv := lv) (hL := L_off) (hwaits := waits m)
    (G := G m) (G' := G' m) (u₀ := u₀)
    (hu₀ := by
      unfold u₀
      iintro Hu
      ihave H := (ownU_pair _ _) $$ Hu
      icases H with ⟨HP, HX⟩
      ihave HX := (Entails.of_eq (show BI.own (embR (initOf allCells allToks, 1)) = (BI.own (EX (initOf allCells allToks)) : sProp 𝕄) from rfl)) $$ HX
      imod (fund m) $$ HX with HG
      imodintro
      isplitl [HP] <;> iassumption)
    (hglob := glob m)
    (hA := fun _ w => w.elim0) (hpf := fun _ k => k.elim0)
    (X := start m) (Y := final m) (Z := fun _ => iprop(emp))
    (hX := start_intro m ρ) (hin := enter m) (hout := leave m)
    (QY := fun c s => Done m c s ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.Exchange

end
-- ==== Proof.Ref.lean ====
/-
  The reference: one conversion of the whole array. Its run, and why each device's result is its block of it.
-/
module

public import proofs.«01_k».proof.Proof.Layout
public import proofs.«01_k».proof.Proof.Gen.ReferenceIdeal
public import Idealize.ShloMosaic.Lib.StableHlo.Run
public import Idealize.ShloMosaic.Lib.Layout

@[expose] public section

noncomputable section

namespace Cert.Whole

open Cert.ReferenceIdeal Cert.ReferenceIdeal.Gen
open Idealize.ShloMosaic Idealize.ShloMosaic.TcCoe Idealize.ShloMosaic.StableHlo Idealize.SL.Sem

variable {F : FTy → Type} [FloatOps F]

/-- The whole array in bf16. -/
abbrev narrow (x : FVec F S8192x2048 .f32) : FVec F S8192x2048 .bf16 := truncf .bf16 x bitsLt_bf16_f32

abbrev ops : List (HloOp τ sig (Elt F)) := [unary main_arg0 main_v0 narrow]

theorem main_ops (c : Dev nD) : main (F := F) c = seq ops := rfl

theorem res_after (V : Valuation τ sig (Elt F)) : after ops V (main_v0 : DevRef τ sig) = narrow (V (main_arg0 : DevRef τ sig)) := by
  after_results
theorem arg_after (V : Valuation τ sig (Elt F)) : after ops V (main_arg0 : DevRef τ sig) = V (main_arg0 : DevRef τ sig) := by
  after_results

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = narrow (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun _ h => ⟨fun c => ⟨(h c main_v0).trans (res_after _), (h c main_arg0).trans (arg_after _)⟩, sem_eq_zero_of_no_sems (by decide) _⟩)
    (run_seq (by decide) (by decide) defs main (fun _ => ops) main_ops (fun _ => unary_bufs_sub ..) m ρ)

/-- If device `c` holds row block `c` of `X`, device `d` ends with column block `d` of `X` in bf16. -/
theorem result_block (m : (ℓ : Loc Cert.KernelIdeal.nD Cert.KernelIdeal.τ Cert.KernelIdeal.sig) → Buf (Elt F) ℓ)
    (X : FVec F S8192x2048 .f32)
    (hX : ∀ c, Cert.Exchange.argAt m c = Layout.block ⟨2, ![2048, 2048]⟩ ⟨2, ![8192, 2048]⟩ 0 4 c X) (d : Dev Cert.KernelIdeal.nD) :
    Cert.Exchange.result m d = Layout.block ⟨2, ![8192, 512]⟩ ⟨2, ![8192, 2048]⟩ 1 4 d (narrow X) := by
  funext i
  show FloatOps.truncf .bf16 _ (Cert.Exchange.argAt m (Cert.Exchange.origin i) (Cert.Exchange.place d i)) = _
  rw [hX, Layout.block_apply, Layout.block_apply]
  show FloatOps.truncf .bf16 _ (X _) = FloatOps.truncf .bf16 _ (X _)
  congr 2
  funext a
  apply Fin.ext
  match a with
  | ⟨0, _⟩ =>
    show (i 0).val / 2048 * 2048 + (i 0).val % 2048 = (i 0).val
    omega
  | ⟨1, _⟩ =>
    show 512 * d.val + (i 1).val = d.val * 512 + (i 1).val
    omega

end Cert.Whole

end
-- ==== Proof.lean ====
/-
  The proof of `Cert.Claim`: the run of the exchange (Proof/Launch.lean), proved once for any float values and read at both
  texts of the kernel, the run of the reference (Proof/Ref.lean), and the two put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

theorem quiescent_P : Cert.quiescent_Kernel := fun m g _ =>
  (θ_run (Cert.KernelIdeal.defs (F := Bits)) _ _).mono (fun _ h => ⟨fun c => (h.1 c).2, h.2⟩) (Cert.Exchange.run_main (F := Bits) m g)

theorem quiescent_PI : Cert.quiescent_KernelIdeal := fun m g _ =>
  (θ_run _ _ _).mono (fun _ h => ⟨fun c => (h.1 c).2, h.2⟩) (Cert.Exchange.run_main m g)

theorem quiescent_RI : Cert.quiescent_ReferenceIdeal := fun m g _ =>
  (θ_run _ _ _).mono (fun _ h => ⟨fun c => (h.1 c).2, h.2⟩) (Cert.Whole.run_main m g)

theorem algebraic : Cert.algebraic_KernelIdeal_ReferenceIdeal := fun m g m' g' _ hm =>
  ⟨_, (θ_run _ _ _).mono (fun _ h c => ⟨(h.1 c).1.trans (Cert.Whole.result_block m _ hm c), (h.1 c).2⟩) (Cert.Exchange.run_main m g),
    (θ_run _ _ _).mono (fun _ h => h.1 0) (Cert.Whole.run_main m' g')⟩

/-- The run of the reference as it is written, whose text is the ideal one's. -/
theorem reference_run (m : (ℓ : Loc Cert.Reference.nD Cert.Reference.τ Cert.Reference.sig) → Buf (Elt Bits) ℓ)
    (g : Dev Cert.Reference.nD → PrngReg) :
    θ_run (Cert.Reference.defs (F := Bits)) (onTc (τ := Cert.Reference.τ) (Cert.Reference.main (F := Bits))) ⟨m, fun _ => 0, g⟩ fun r =>
      (∀ c : Dev Cert.Reference.nD, r.2.mem ((c.tc : Thread Cert.Reference.nD Cert.Reference.τ).loc Cert.Reference.main_v0)
          = Cert.Whole.narrow (F := Bits) (m ((c.tc : Thread Cert.Reference.nD Cert.Reference.τ).loc Cert.Reference.main_arg0))
        ∧ r.2.mem ((c.tc : Thread Cert.Reference.nD Cert.Reference.τ).loc Cert.Reference.main_arg0)
          = m ((c.tc : Thread Cert.Reference.nD Cert.Reference.τ).loc Cert.Reference.main_arg0)) ∧ r.2.sem = fun _ => 0 :=
  Cert.Whole.run_main (F := Bits) m g

theorem quiescent_R : Cert.quiescent_Reference := fun m g _ =>
  (θ_run _ _ _).mono (fun _ h => ⟨fun c => (h.1 c).2, h.2⟩) (reference_run m g)

theorem bitexact : Cert.bitexact_Kernel_Reference := fun m g m' g' _ hm =>
  ⟨_, (θ_run (Cert.KernelIdeal.defs (F := Bits)) _ _).mono
      (fun _ h c => ⟨(h.1 c).1.trans (Cert.Whole.result_block (F := Bits) m _ hm c), (h.1 c).2⟩) (Cert.Exchange.run_main (F := Bits) m g),
    (θ_run _ _ _).mono (fun _ h => h.1 0) (reference_run m' g')⟩

theorem claim : Cert.Claim :=
  ⟨Cert.Kernel.Gen.facts, Cert.KernelIdeal.Gen.facts, Cert.ReferenceIdeal.Gen.facts, Cert.Reference.Gen.facts,
    quiescent_P, quiescent_PI, quiescent_RI, quiescent_R, trivial, algebraic, bitexact⟩

end Cert.Proof

end
